-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x6144 : Shape := ⟨3, ![3, 640, 6144]⟩
abbrev S3x640 : Shape := ⟨2, ![3, 640]⟩
abbrev S6144x1026 : Shape := ⟨2, ![6144, 1026]⟩
abbrev S1026 : Shape := ⟨1, ![1026]⟩
abbrev S1026x6144 : Shape := ⟨2, ![1026, 6144]⟩
abbrev S6x6144 : Shape := ⟨2, ![6, 6144]⟩
abbrev S1032x6144 : Shape := ⟨2, ![1032, 6144]⟩
abbrev S1920x6144 : Shape := ⟨2, ![1920, 6144]⟩
abbrev S3x1026x640 : Shape := ⟨3, ![3, 1026, 640]⟩
abbrev S1056x6144 : Shape := ⟨2, ![1056, 6144]⟩
abbrev S1056x128 : Shape := ⟨2, ![1056, 128]⟩
abbrev S544x128 : Shape := ⟨2, ![544, 128]⟩
abbrev S4x1026x128 : Shape := ⟨3, ![4, 1026, 128]⟩
abbrev S73 : Shape := ⟨1, ![73]⟩
abbrev S16 : Shape := ⟨1, ![16]⟩
abbrev S1 : Shape := ⟨1, ![1]⟩
abbrev S_ : Shape := ⟨0, ![]⟩
abbrev S8x6144 : Shape := ⟨2, ![8, 6144]⟩
abbrev S1024x256 : Shape := ⟨2, ![1024, 256]⟩
abbrev S256x256 : Shape := ⟨2, ![256, 256]⟩
abbrev S128x2048 : Shape := ⟨2, ![128, 2048]⟩
abbrev S256x2048 : Shape := ⟨2, ![256, 2048]⟩
abbrev S128 : Shape := ⟨1, ![128]⟩
abbrev S1x128 : Shape := ⟨2, ![1, 128]⟩
abbrev S128x128 : Shape := ⟨2, ![128, 128]⟩
abbrev S1x1 : Shape := ⟨2, ![1, 1]⟩
abbrev S14x128 : Shape := ⟨2, ![14, 128]⟩
abbrev S32x256 : Shape := ⟨2, ![32, 256]⟩
abbrev S32x128 : Shape := ⟨2, ![32, 128]⟩
abbrev S8x128 : Shape := ⟨2, ![8, 128]⟩
abbrev S1x32x128 : Shape := ⟨3, ![1, 32, 128]⟩
abbrev S2x128 : Shape := ⟨2, ![2, 128]⟩
abbrev S1x2x128 : Shape := ⟨3, ![1, 2, 128]⟩
abbrev S1x1026x128 : Shape := ⟨3, ![1, 1026, 128]⟩
abbrev S1026x128 : Shape := ⟨2, ![1026, 128]⟩

abbrev nBuf : Space → Nat
  | .hbm => 10
  | .vmem => 12
  | .smem => 0
  | _ => 0

abbrev bufTy : (tb : Table) → Fin (tcTables nBuf tb) → BufTy
  | .hbm, ⟨0, _⟩ => ⟨S3x640x6144, .fp8e4m3⟩
  | .hbm, ⟨1, _⟩ => ⟨S3x640, .f32⟩
  | .hbm, ⟨2, _⟩ => ⟨S6144x1026, .fp8e4m3⟩
  | .hbm, ⟨3, _⟩ => ⟨S1026, .f32⟩
  | .hbm, ⟨4, _⟩ => ⟨S1026, .f32⟩
  | .hbm, ⟨5, _⟩ => ⟨S1026x6144, .fp8e4m3⟩
  | .hbm, ⟨6, _⟩ => ⟨S6x6144, .fp8e4m3⟩
  | .hbm, ⟨7, _⟩ => ⟨S1032x6144, .fp8e4m3⟩
  | .hbm, ⟨8, _⟩ => ⟨S1920x6144, .fp8e4m3⟩
  | .hbm, ⟨9, _⟩ => ⟨S3x1026x640, .bf16⟩
  | .local _ .vmem, ⟨0, _⟩ => ⟨S1920x6144, .fp8e4m3⟩
  | .local _ .vmem, ⟨1, _⟩ => ⟨S1056x6144, .fp8e4m3⟩
  | .local _ .vmem, ⟨2, _⟩ => ⟨S3x640, .f32⟩
  | .local _ .vmem, ⟨3, _⟩ => ⟨S1026, .f32⟩
  | .local _ .vmem, ⟨4, _⟩ => ⟨S1026, .f32⟩
  | .local _ .vmem, ⟨5, _⟩ => ⟨S1056x128, .f32⟩
  | .local _ .vmem, ⟨6, _⟩ => ⟨S1056x128, .f32⟩
  | .local _ .vmem, ⟨7, _⟩ => ⟨S1056x128, .f32⟩
  | .local _ .vmem, ⟨8, _⟩ => ⟨S1056x128, .f32⟩
  | .local _ .vmem, ⟨9, _⟩ => ⟨S544x128, .f32⟩
  | .local _ .vmem, ⟨10, _⟩ => ⟨S544x128, .f32⟩
  | .local _ .vmem, ⟨11, _⟩ => ⟨S4x1026x128, .bf16⟩
  | _, _ => ⟨S3x640x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩

abbrev nD : Nat := 1
abbrev τ : Topo := Topo.v7x

variable {F : FTy → Type} [FloatOps F]

abbrev grid0 : Pipeline.Grid := ⟨1, ![1], ![false]⟩

def k0_mult1 (i : grid0.Coords) : BitVec 32 :=
  let arg0 : BitVec 32 := BitVec.ofNat 32 (i 0).val
  let c8_i32 : BitVec 32 := 8#32
  let v0 : BitVec 32 := Scalar.muli arg0 c8_i32
  let c1024_i32 : BitVec 32 := 1024#32
  let v1 : BitVec 32 := Scalar.addi v0 c1024_i32
  v1
def k0_off1 (i : grid0.Coords) : Fin 2 → Nat :=
  let arg0 : BitVec 32 := BitVec.ofNat 32 (i 0).val
  let c8_i32 : BitVec 32 := 8#32
  let v0 : BitVec 32 := Scalar.muli arg0 c8_i32
  let c1024_i32 : BitVec 32 := 1024#32
  let v1 : BitVec 32 := Scalar.addi v0 c1024_i32
  let v2 : BitVec 32 := v1
  let c0_i32_2 : BitVec 32 := 0#32
  ![v2.toNat, 0]
-- ==== ReferenceIdeal.lean ====
abbrev S3x640x6144 : Shape := ⟨3, ![3, 640, 6144]⟩
abbrev S3x640 : Shape := ⟨2, ![3, 640]⟩
abbrev S6144x1026 : Shape := ⟨2, ![6144, 1026]⟩
abbrev S1026 : Shape := ⟨1, ![1026]⟩
abbrev S3x1026x640 : Shape := ⟨3, ![3, 1026, 640]⟩
abbrev S3x640x1026 : Shape := ⟨3, ![3, 640, 1026]⟩
abbrev S3x640x1 : Shape := ⟨3, ![3, 640, 1]⟩
abbrev S1x1x1026 : Shape := ⟨3, ![1, 1, 1026]⟩
abbrev S3x640x513 : Shape := ⟨3, ![3, 640, 513]⟩

abbrev nBuf : Space → Nat
  | .hbm => 6
  | .vmem => 6
  | .smem => 0
  | _ => 0

abbrev bufTy : (tb : Table) → Fin (tcTables nBuf tb) → BufTy
  | .hbm, ⟨0, _⟩ => ⟨S3x640x6144, .fp8e4m3⟩
  | .hbm, ⟨1, _⟩ => ⟨S3x640, .f32⟩
  | .hbm, ⟨2, _⟩ => ⟨S6144x1026, .fp8e4m3⟩
  | .hbm, ⟨3, _⟩ => ⟨S1026, .f32⟩
  | .hbm, ⟨4, _⟩ => ⟨S1026, .f32⟩
  | .hbm, ⟨5, _⟩ => ⟨S3x1026x640, .bf16⟩
  | .local _ .vmem, ⟨0, _⟩ => ⟨S3x640x6144, .fp8e4m3⟩
  | .local _ .vmem, ⟨1, _⟩ => ⟨S3x640, .f32⟩
  | .local _ .vmem, ⟨2, _⟩ => ⟨S6144x1026, .fp8e4m3⟩
  | .local _ .vmem, ⟨3, _⟩ => ⟨S1026, .f32⟩
  | .local _ .vmem, ⟨4, _⟩ => ⟨S1026, .f32⟩
  | .local _ .vmem, ⟨5, _⟩ => ⟨S3x1026x640, .bf16⟩
  | _, _ => ⟨S3x640x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1026 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1026 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1026 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1026x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Str.lean ====
/- The kernel's body written with loops: the same operations in the same order, over tiles, steps along the contracted
   axis, and pieces of 32 rows. -/
module

public import proofs.«01_k».proof.KernelIdeal

@[expose] public section

noncomputable section

namespace Cert.KernelIdeal

open Idealize.ShloMosaic Idealize.SL.Sem
open Shapes1.Facts₀ Shapes2.Facts₀ K0.Facts₀ Facts₀ Facts

/-! ## Rectangles given by numbers -/

theorem inb1 {R r a : ℕ} (h : r + a ≤ R) :
    ∀ i, (![r] : Fin 1 → ℕ) i + (⟨1, ![a]⟩ : Shape).size i ≤ (⟨1, ![R]⟩ : Shape).size i :=
  Fin.forall_fin_one.2 h

theorem inb2 {R C r c a b : ℕ} (h : r + a ≤ R) (h' : c + b ≤ C) :
    ∀ i, (![r, c] : Fin 2 → ℕ) i + (⟨2, ![a, b]⟩ : Shape).size i ≤ (⟨2, ![R, C]⟩ : Shape).size i :=
  Fin.forall_fin_two.2 ⟨h, h'⟩

theorem inb3 {R C D r c d a b e : ℕ} (h : r + a ≤ R) (h' : c + b ≤ C) (h'' : d + e ≤ D) :
    ∀ i, (![r, c, d] : Fin 3 → ℕ) i + (⟨3, ![a, b, e]⟩ : Shape).size i ≤ (⟨3, ![R, C, D]⟩ : Shape).size i :=
  Fin.forall_fin_succ.2 ⟨h, Fin.forall_fin_two.2 ⟨h', h''⟩⟩

/-- Rows starting at and numbering a multiple of four, of one-byte elements, -/
theorem rows2 {R C r c a b : ℕ} (h) (hr : 4 ∣ r) (ha : 4 ∣ a) :
    (Rect.unit (s := ⟨2, ![R, C]⟩) ![r, c] (⟨2, ![a, b]⟩ : Shape).size h).PackedRows (EltTy.packing .fp8e4m3) :=
  .inr ⟨le_refl 2, rfl, .inl ⟨hr, ha⟩⟩

/-- and of two, of two-byte elements. -/
theorem rows3 {R C D r c d a b e : ℕ} (h) (hr : 2 ∣ c) (ha : 2 ∣ b) :
    (Rect.unit (s := ⟨3, ![R, C, D]⟩) ![r, c, d] (⟨3, ![a, b, e]⟩ : Shape).size h).PackedRows (EltTy.packing .bf16) :=
by
  refine .inr ⟨show 2 ≤ 3 by decide, rfl, .inl ⟨?_, ?_⟩⟩
  · exact hr
  · exact ha

/-- Every row of the slabs met. -/
theorem slabs3 {R C D r d a e p : ℕ} (h) :
    (Rect.unit (s := ⟨3, ![R, C, D]⟩) ![r, 0, d] (⟨3, ![a, C, e]⟩ : Shape).size h).WholeWords p :=
  .inr ⟨show 2 ≤ 3 by decide, rfl, rfl, rfl⟩

theorem fitsA (n : ℕ) : Mxu.Fits (8 * (n % 32)) 32 :=
  ⟨by omega, by omega, by omega⟩

variable {F : FTy → Type} [FloatOps F] [Facts]

/-! ## The buffers -/

abbrev aX : Memref sig .tc .hbm S1920x6144 .fp8e4m3 := Memref.whole main_v3
abbrev aXs : Memref sig .tc .hbm S3x640 .f32 := Memref.whole main_arg1
abbrev aWt : Memref sig .tc .hbm S1032x6144 .fp8e4m3 := Memref.whole main_v2
abbrev aWs : Memref sig .tc .hbm S1026 .f32 := Memref.whole main_arg3
abbrev aB : Memref sig .tc .hbm S1026 .f32 := Memref.whole main_arg4
abbrev aO : Memref sig .tc .hbm S3x1026x640 .bf16 := Memref.whole main_v4
abbrev bX : Memref sig .tc .vmem S1920x6144 .fp8e4m3 := Memref.whole cc0_scratch0
abbrev bW : Memref sig .tc .vmem S1056x6144 .fp8e4m3 := Memref.whole cc0_scratch1
abbrev bXs : Memref sig .tc .vmem S3x640 .f32 := Memref.whole cc0_scratch2
abbrev bWs : Memref sig .tc .vmem S1026 .f32 := Memref.whole cc0_scratch3
abbrev bB : Memref sig .tc .vmem S1026 .f32 := Memref.whole cc0_scratch4
abbrev cW : Memref sig .tc .vmem S1056x128 .f32 := Memref.whole cc0_scratch5
abbrev cB : Memref sig .tc .vmem S1056x128 .f32 := Memref.whole cc0_scratch6
/-- The projection of lane group `l` of a tile. -/
def bH (l : Fin 2) : Memref sig .tc .vmem S1056x128 .f32 :=
  match l with
  | 0 => Memref.whole cc0_scratch7
  | 1 => Memref.whole cc0_scratch8
/-- The sine rows of lane group `l` of a tile, one row down. -/
def bS (l : Fin 2) : Memref sig .tc .vmem S544x128 .f32 :=
  match l with
  | 0 => Memref.whole cc0_scratch9
  | 1 => Memref.whole cc0_scratch10
abbrev bO : Memref sig .tc .vmem S4x1026x128 .bf16 := Memref.whole cc0_scratch11

/-- The number of semaphores of the copies in. -/
abbrev nIn : ℕ := 73
abbrev SIn : Shape := S73
/-- The number of tiles. -/
abbrev NT : ℕ := 8

/-- Semaphore `n` of the copies in, -/
def iC (n : ℕ) (h : n < nIn) : DmaSems sig S_ :=
  ((cc0_scratch12 : DmaSems sig SIn).slice (Rect.unit (s := SIn) ![n] S1.size (inb1 (by exact h)))).squeeze S_ squeezes_S1_S_
/-- and of the copies out. -/
def oC (n : ℕ) (h : n < 16) : DmaSems sig S_ :=
  ((cc0_scratch13 : DmaSems sig S16).slice (Rect.unit (s := S16) ![n] S1.size (inb1 (by exact h)))).squeeze S_ squeezes_S1_S_

variable (F) in
abbrev Pg (α : Type) := Prog (TpuEff nD τ sig (Elt F) Λ₀ .tc) α

variable {α : Type}

/-! ## Single operations, in continuation style -/

def ld {R C : ℕ} {e : EltTy} (m : Memref sig .tc .vmem ⟨2, ![R, C]⟩ e) (r c a b : ℕ) (hr : r + a ≤ R) (hc : c + b ≤ C)
    (hp : 0 < (⟨2, ![a, b]⟩ : Shape).numel) (κ : Vec F ⟨2, ![a, b]⟩ e → Pg F α) : Pg F α :=
  .op (.load m (Rect.unit (s := ⟨2, ![R, C]⟩) ![r, c] (⟨2, ![a, b]⟩ : Shape).size (inb2 hr hc)).toLoadRect (View.loadsAt_vmem hp)) κ

def st {R C : ℕ} (m : Memref sig .tc .vmem ⟨2, ![R, C]⟩ .f32) (r c a b : ℕ) (hr : r + a ≤ R) (hc : c + b ≤ C)
    (hp : 0 < (⟨2, ![a, b]⟩ : Shape).numel) (v : FVec F ⟨2, ![a, b]⟩ .f32) (κ : Pg F α) : Pg F α :=
  .op (.store m (Rect.unit (s := ⟨2, ![R, C]⟩) ![r, c] (⟨2, ![a, b]⟩ : Shape).size (inb2 hr hc)) v Finset.univ
    (View.stores_vmem_bits_univ hp rfl) (.inl rfl)) fun _ => κ

def ld1 (m : Memref sig .tc .vmem S1026 .f32) (r a : ℕ) (hr : r + a ≤ 1026)
    (hp : 0 < (⟨1, ![a]⟩ : Shape).numel) (κ : Vec F ⟨1, ![a]⟩ .f32 → Pg F α) : Pg F α :=
  .op (.load m (Rect.unit (s := S1026) ![r] (⟨1, ![a]⟩ : Shape).size (inb1 hr)).toLoadRect (View.loadsAt_vmem hp)) κ

/-- A block of the spectrum's staging buffer, read and then overwritten. -/
def putO (n r a : ℕ) (hn : n < 4) (hr : r + a ≤ 1026) (h2r : 2 ∣ r) (h2a : 2 ∣ a)
    (hp : 0 < (⟨3, ![1, a, 128]⟩ : Shape).numel) (v : FVec F ⟨3, ![1, a, 128]⟩ .bf16) (κ : Pg F α) : Pg F α :=
  .op (.load bO (Rect.unit (s := S4x1026x128) ![n, r, 0] (⟨3, ![1, a, 128]⟩ : Shape).size
      (inb3 hn hr (le_refl 128))).toLoadRect (View.loadsAt_vmem hp)) fun _ =>
  .op (.store bO (Rect.unit (s := S4x1026x128) ![n, r, 0] (⟨3, ![1, a, 128]⟩ : Shape).size
      (inb3 hn hr (le_refl 128))) v Finset.univ
    (View.stores_vmem hp ((Memref.isWhole_whole _).storeExact_slice rfl _ (rows3 _ h2r h2a)) (fun _ => rfl)) (.inl rfl)) fun _ => κ

/-- A block of a buffer of rows, read and then overwritten. -/
def put {R : ℕ} (m : Memref sig .tc .vmem ⟨2, ![R, 128]⟩ .f32) (r a : ℕ) (hr : r + a ≤ R)
    (hp : 0 < (⟨2, ![a, 128]⟩ : Shape).numel) (hs : (⟨2, ![a, 128]⟩ : Shape).ShapeCasts ⟨2, ![a, 128]⟩)
    (v : FVec F ⟨2, ![a, 128]⟩ .f32) (κ : Pg F α) : Pg F α :=
  ld m r 0 a 128 hr (le_refl 128) hp fun _ => st m r 0 a 128 hr (le_refl 128) hp (shapeCast _ v hs) κ

abbrev sl2 {R C : ℕ} {sp : Space} {e : EltTy} (m : Memref sig .tc sp ⟨2, ![R, C]⟩ e) (r c a b : ℕ) (hr : r + a ≤ R) (hc : c + b ≤ C) :
    Memref sig .tc sp ⟨2, ![a, b]⟩ e :=
  m.slice (Rect.unit (s := ⟨2, ![R, C]⟩) ![r, c] (⟨2, ![a, b]⟩ : Shape).size (inb2 hr hc)) (fun _ => rfl)

/-- Rows `r ..< r + a`, columns `c ..< c + b` of the activation codes brought in. -/
def startX (n r c a b : ℕ) (hn : n < nIn) (hr : r + a ≤ 1920) (hc : c + b ≤ 6144) (h4r : 4 ∣ r) (h4a : 4 ∣ a) (κ : Pg F α) : Pg F α :=
  .op (.enqueueDma (sl2 aX r c a b hr hc) (.here (sl2 bX r c a b hr hc)) (.dma (iC n hn).sem)
    ((Memref.isWhole_whole _).wordExact_slice rfl _ (.inl (rows2 _ h4r h4a)))
    ((Memref.isWhole_whole _).wordExact_slice rfl _ (.inl (rows2 _ h4r h4a))) ⟨Or.inl rfl, trivial⟩) fun _ => κ

def waitX (n r c a b : ℕ) (hn : n < nIn) (hr : r + a ≤ 1920) (hc : c + b ≤ 6144) (h4r : 4 ∣ r) (h4a : 4 ∣ a) (κ : Pg F α) : Pg F α :=
  .op (.waitDma2 (iC n hn).sem (sl2 aX r c a b hr hc) (sl2 bX r c a b hr hc)
    ((Memref.isWhole_whole _).wordExact_slice rfl _ (.inl (rows2 _ h4r h4a)))
    ((Memref.isWhole_whole _).wordExact_slice rfl _ (.inl (rows2 _ h4r h4a)))) fun _ => κ

/-- Columns `256 k ..< 256 (k + 1)` of the first 1024 weight rows brought in. -/
def startW (n k : ℕ) (hn : n < nIn) (hk : k < 24) (κ : Pg F α) : Pg F α :=
  .op (.enqueueDma (sl2 aWt 0 (256 * k) 1024 256 (by decide) (by omega)) (.here (sl2 bW 0 (256 * k) 1024 256 (by decide) (by omega)))
    (.dma (iC n hn).sem)
    ((Memref.isWhole_whole _).wordExact_slice rfl _ (.inl (rows2 _ (show 4 ∣ _ by decide) (show 4 ∣ _ by decide))))
    ((Memref.isWhole_whole _).wordExact_slice rfl _ (.inl (rows2 _ (show 4 ∣ _ by decide) (show 4 ∣ _ by decide)))) ⟨Or.inl rfl, trivial⟩) fun _ => κ

def waitW (n k : ℕ) (hn : n < nIn) (hk : k < 24) (κ : Pg F α) : Pg F α :=
  .op (.waitDma2 (iC n hn).sem (sl2 aWt 0 (256 * k) 1024 256 (by decide) (by omega)) (sl2 bW 0 (256 * k) 1024 256 (by decide) (by omega))
    ((Memref.isWhole_whole _).wordExact_slice rfl _ (.inl (rows2 _ (show 4 ∣ _ by decide) (show 4 ∣ _ by decide))))
    ((Memref.isWhole_whole _).wordExact_slice rfl _ (.inl (rows2 _ (show 4 ∣ _ by decide) (show 4 ∣ _ by decide))))) fun _ => κ

/-- The last weight rows, at the offset the kernel computes from its grid coordinate. -/
abbrev slTail (i : grid0.Coords) : Memref sig .tc .hbm S8x6144 .fp8e4m3 :=
  aWt.slice (Rect.unit (s := S1032x6144) (k0_off1 i) S8x6144.size (k0_off1_inb i)) (fun _ => rfl)

def startTail (i : grid0.Coords) (κ : Pg F α) : Pg F α :=
  .op (.enqueueDma (slTail i) (.here (sl2 bW 1024 0 8 6144 (by decide) (by decide))) (.dma (iC 0 (by decide)).sem)
    ((Memref.isWhole_whole _).wordExact_slice rfl _ (k0_off1_wordsfp8e4m3 i))
    ((Memref.isWhole_whole _).wordExact_slice rfl _ (.inl (rows2 _ (show 4 ∣ _ by decide) (show 4 ∣ _ by decide)))) ⟨Or.inl rfl, trivial⟩) fun _ => κ

def waitTail (i : grid0.Coords) (κ : Pg F α) : Pg F α :=
  .op (.waitDma2 (iC 0 (by decide)).sem (slTail i) (sl2 bW 1024 0 8 6144 (by decide) (by decide))
    ((Memref.isWhole_whole _).wordExact_slice rfl _ (k0_off1_wordsfp8e4m3 i))
    ((Memref.isWhole_whole _).wordExact_slice rfl _ (.inl (rows2 _ (show 4 ∣ _ by decide) (show 4 ∣ _ by decide))))) fun _ => κ

def startWs (κ : Pg F α) : Pg F α :=
  .op (.enqueueDma aWs (.here bWs) (.dma (iC 5 (by decide)).sem) (Memref.isWhole_whole _).wordExact (Memref.isWhole_whole _).wordExact
    ⟨Or.inl rfl, trivial⟩) fun _ => κ
def waitWs (κ : Pg F α) : Pg F α :=
  .op (.waitDma2 (iC 5 (by decide)).sem aWs bWs (Memref.isWhole_whole _).wordExact (Memref.isWhole_whole _).wordExact) fun _ => κ
def startB (κ : Pg F α) : Pg F α :=
  .op (.enqueueDma aB (.here bB) (.dma (iC 6 (by decide)).sem) (Memref.isWhole_whole _).wordExact (Memref.isWhole_whole _).wordExact
    ⟨Or.inl rfl, trivial⟩) fun _ => κ
def waitB (κ : Pg F α) : Pg F α :=
  .op (.waitDma2 (iC 6 (by decide)).sem aB bB (Memref.isWhole_whole _).wordExact (Memref.isWhole_whole _).wordExact) fun _ => κ
def startXs (κ : Pg F α) : Pg F α :=
  .op (.enqueueDma aXs (.here bXs) (.dma (iC 7 (by decide)).sem) (Memref.isWhole_whole _).wordExact (Memref.isWhole_whole _).wordExact
    ⟨Or.inl rfl, trivial⟩) fun _ => κ
def waitXs (κ : Pg F α) : Pg F α :=
  .op (.waitDma2 (iC 7 (by decide)).sem aXs bXs (Memref.isWhole_whole _).wordExact (Memref.isWhole_whole _).wordExact) fun _ => κ

/-! ## Loops -/

def forK {σ : Type} (n : ℕ) (f : (i : ℕ) → i < n → σ → (σ → Pg F α) → Pg F α) : (j i : ℕ) → i + j = n → σ → (σ → Pg F α) → Pg F α
  | 0, _, _, s, κ => κ s
  | j + 1, i, h, s, κ => f i (by omega) s fun s' => forK n f j (i + 1) (by omega) s' κ

/-- The same with no state. -/
def forU (n : ℕ) (f : (i : ℕ) → i < n → Pg F α → Pg F α) : (j i : ℕ) → i + j = n → Pg F α → Pg F α
  | 0, _, _, κ => κ
  | j + 1, i, h, κ => f i (by omega) (forU n f j (i + 1) (by omega) κ)

/-! ## The prologue: the copies in, and the two columns -/

def semW (k : ℕ) : ℕ := if k < 2 then 1 + 2 * k else 4 + 2 * k
def semX (k : ℕ) : ℕ := if k < 2 then 2 + 2 * k else 5 + 2 * k
theorem semW_lt {k : ℕ} (h : k < 24) : semW k < nIn := by unfold semW; split <;> (show _ < 73; omega)
theorem semX_lt {k : ℕ} (h : k < 24) : semX k < nIn := by unfold semX; split <;> (show _ < 73; omega)

/-- The first row and the number of rows of the copy of tile `t`. -/
def f0 (t : ℕ) : ℕ := 256 * t - 128
/-- The first of the rows tile `t` brings in that no earlier tile brought in. -/
def loT (t : ℕ) : ℕ := max (256 * t - 128) 256

theorem xt_sem {t j : ℕ} (ht : t < 8) (h : 1 ≤ t) (hj : j < 3) : 52 + 3 * (t - 1) + j < nIn := by show _ < 73; omega
theorem xt_rows {t : ℕ} (ht : t < 8) (h : 1 ≤ t) : loT t + (256 * t + 128 - loT t) ≤ 1920 := by unfold loT; omega
theorem xt_lo (t : ℕ) : 4 ∣ loT t := by unfold loT; omega
theorem xt_num (t : ℕ) : 4 ∣ 256 * t + 128 - loT t := by unfold loT; omega

/-- Third `j` of the columns of the rows of tile `t`. -/
def startXT (t j : ℕ) (ht : t < 8) (h : 1 ≤ t) (hj : j < 3) (κ : Pg F α) : Pg F α :=
  startX (52 + 3 * (t - 1) + j) (loT t) (2048 * j) (256 * t + 128 - loT t) 2048 (xt_sem ht h hj) (xt_rows ht h) (by omega)
    (xt_lo t) (xt_num t) κ
def waitXT (t j : ℕ) (ht : t < 8) (h : 1 ≤ t) (hj : j < 3) (κ : Pg F α) : Pg F α :=
  waitX (52 + 3 * (t - 1) + j) (loT t) (2048 * j) (256 * t + 128 - loT t) 2048 (xt_sem ht h hj) (xt_rows ht h) (by omega)
    (xt_lo t) (xt_num t) κ

def startWX (k : ℕ) (hk : k < 24) (κ : Pg F α) : Pg F α :=
  startW (semW k) k (semW_lt hk) hk <| startX (semX k) 0 (256 * k) 256 256 (semX_lt hk) (by decide) (by omega) (by decide) (by decide) κ

/-- Column block `c` of a vector laid out along the rows of a column buffer. -/
def colBlock (src : Memref sig .tc .vmem S1026 .f32) (dst : Memref sig .tc .vmem S1056x128 .f32) (c : ℕ) (hc : c < 8) (κ : Pg F α) : Pg F α :=
  ld1 src (128 * c) 128 (by omega) h_S128 fun v =>
  put dst (128 * c) 128 (by omega) h_S128x128 shapeCasts_S128x128_S128x128
    (transpose S128x128 [1, 0] (broadcastTo S128x128 (shapeCast S1x128 (shapeCast S1x128 v shapeCasts_S128_S1x128) shapeCasts_S1x128_S1x128)
      broadcasts_S1x128_S128x128) transposes_S128x128_p1_0_S128x128) κ

def colRow (src : Memref sig .tc .vmem S1026 .f32) (dst : Memref sig .tc .vmem S1056x128 .f32) (r : ℕ) (hr : r < 1026) (κ : Pg F α) : Pg F α :=
  ld1 src r 1 hr h_S1 fun v =>
  put dst r 1 (by omega) h_S1x128 shapeCasts_S1x128_S1x128
    (broadcastTo S1x128 (shapeCast S1x1 (shapeCast S1x1 v shapeCasts_S1_S1x1) shapeCasts_S1x1_S1x1) broadcasts_S1x1_S1x128) κ

def column (src : Memref sig .tc .vmem S1026 .f32) (dst : Memref sig .tc .vmem S1056x128 .f32) (κ : Pg F α) : Pg F α :=
  forU 8 (fun c hc => colBlock src dst c hc) 8 0 rfl <|
  colRow src dst 1024 (by decide) <| colRow src dst 1025 (by decide) <|
  put dst 1026 14 (by decide) h_S14x128 shapeCasts_S14x128_S14x128
    (broadcast S14x128 (Scalar.ofBits .f32 0x00000000#32)) κ

def prologue (i : grid0.Coords) (κ : Pg F α) : Pg F α :=
  startTail i <|
  forU 2 (fun k hk => startWX k (by omega)) 2 0 rfl <|
  startWs <| startB <| startXs <|
  forU 24 (fun k hk => startWX k hk) 22 2 rfl <|
  forU 21 (fun n hn => startXT (n / 3 + 1) (n % 3) (by omega) (by omega) (by omega)) 21 0 rfl <|
  waitWs <| waitB <| waitXs <|
  column bWs cW <| column bB cB <|
  waitTail i κ

/-! ## The projection -/

/-- Where piece `c` of tile `t` accumulates. -/
def adr (t c : ℕ) : ℕ := 8 * ((17 * t + c) % 32)
theorem adr_fits (t c : ℕ) : Mxu.Fits (adr t c) 32 := fitsA _

/-- Piece 0 of unit `q`: it loads the staged tile. -/
def acc0 (t k : ℕ) (hk : k < 24) (q r : Fin 2) (s : Mxu F) (κ : Mxu F → Pg F α) : Pg F α :=
  ld bW (512 * q.val) (256 * k) 32 256 (by omega) (by omega) h_S32x256 fun v =>
  κ (s.accLhs q r (adr t 0) (extf .bf16 v bitsLt_fp8e4m3_bf16 : FVec F S32x256 .bf16) (adr_fits t 0))

/-- The piece at weight row `row`, address `A`. -/
def accN (t k c row : ℕ) (hk : k < 24) (hr : row + 32 ≤ 1056) (q : Fin 2) (s : Mxu F) (κ : Mxu F → Pg F α) : Pg F α :=
  ld bW row (256 * k) 32 256 hr (by omega) h_S32x256 fun v =>
  (s.accLhsLoaded q (adr t c) (extf .bf16 v bitsLt_fp8e4m3_bf16 : FVec F S32x256 .bf16) (adr_fits t c)).bind κ

def unitStep (t k : ℕ) (hk : k < 24) (q : Fin 2) (x : FVec F S256x256 .bf16) (s : Mxu F) (κ : Mxu F → Pg F α) : Pg F α :=
  (s.pushRhs q ⟨k % 2, Nat.mod_lt _ (by decide)⟩ true x).bind fun s =>
  acc0 t k hk q ⟨k % 2, Nat.mod_lt _ (by decide)⟩ s fun s =>
  forK 16 (fun c hc => accN t k c (512 * q.val + 32 * c) hk (by omega) q) 15 1 rfl s fun s =>
  bif Nat.beq (k % 2) q.val then accN t k 16 1024 hk (by decide) q s κ else κ s

/-- The copies step `k` of tile `0` waits for. -/
def waitWX (k : ℕ) (hk : k < 24) (κ : Pg F α) : Pg F α :=
  waitW (semW k) k (semW_lt hk) hk <| waitX (semX k) 0 (256 * k) 256 256 (semX_lt hk) (by decide) (by omega) (by decide) (by decide) κ

def kStep (t k : ℕ) (ht : t < 8) (hk : k < 24) (s : Mxu F) (κ : Mxu F → Pg F α) : Pg F α :=
  ld bX (f0 t) (256 * k) 256 256 (by unfold f0; omega) (by omega) h_S256x256 fun v =>
  unitStep t k hk 0 (extf .bf16 v bitsLt_fp8e4m3_bf16) s fun s =>
  unitStep t k hk 1 (extf .bf16 v bitsLt_fp8e4m3_bf16) s κ

/-! ## The drain -/

def putH (l : Fin 2) (row : ℕ) (hr : row + 32 ≤ 1056) (v : FVec F S32x128 .f32) (κ : Pg F α) : Pg F α :=
  put (bH l) row 32 hr h_S32x128 shapeCasts_S32x128_S32x128 v κ

def putHs (row : ℕ) (hr : row + 32 ≤ 1056) (v : FVec F S32x256 .f32) (κ : Pg F α) : Pg F α :=
  putH 0 row hr (extractStridedSlice S32x128 ![0, 0] v slices_S32x256_o0_0_S32x128) <|
  putH 1 row hr (extractStridedSlice S32x128 ![0, 128] v slices_S32x256_o0_128_S32x128) κ

def drainPiece (t c : ℕ) (hc : c < 16) (q : Fin 2) (s : Mxu F) (κ : Mxu F → Pg F α) : Pg F α :=
  putHs (512 * q.val + 32 * c) (by omega) (s.read q (adr t c) (adr_fits t c)) <|
  κ (s.pop q (adr t c) 32 (adr_fits t c))

def drain (t : ℕ) (s : Mxu F) (κ : Mxu F → Pg F α) : Pg F α :=
  forK 16 (fun c hc s κ => drainPiece t c hc 0 s fun s => drainPiece t c hc 1 s κ) 16 0 rfl s fun s =>
  putHs 1024 (by decide) (addf (s.read 0 (adr t 16) (adr_fits t 16))
    ((s.pop 0 (adr t 16) 32 (adr_fits t 16)).read 1 (adr t 16) (adr_fits t 16))) <|
  κ ((s.pop 0 (adr t 16) 32 (adr_fits t 16)).pop 1 (adr t 16) 32 (adr_fits t 16))

/-! ## The spectrum of a tile -/

def lanes (t : ℕ) : ℕ := min t 1 + 1
/-- The group of 128 frames that lane group `l` of tile `t` is. -/
def grp (t l : ℕ) : ℕ := 2 * t - 1 + l
theorem grp_lt {t l : ℕ} (ht : t < 8) (hl : l < 2) : grp t l / 5 < 3 := by unfold grp; omega

/-- The magnitudes times cosine and sine, from the loaded rows. -/
def spC {s : Shape} (hm hp : FVec F s .f32) (xs : FVec F s .f32) (wm bm wp bp : FVec F s .f32) : FVec F s .f32 :=
  mulf (minimumf (exp (addf (mulf (mulf hm xs) wm) bm)) (broadcast s (Scalar.ofBits .f32 0x42C80000#32)))
    (cos (addf (mulf (mulf hp xs) wp) bp))
def spS {s : Shape} (hm hp : FVec F s .f32) (xs : FVec F s .f32) (wm bm wp bp : FVec F s .f32) : FVec F s .f32 :=
  mulf (minimumf (exp (addf (mulf (mulf hm xs) wm) bm)) (broadcast s (Scalar.ofBits .f32 0x42C80000#32)))
    (sin (addf (mulf (mulf hp xs) wp) bp))

/-- The seven loads of `a` rows from row `r` of the magnitudes and row `513 + r` of the phases. -/
def loads (t : ℕ) (ht : t < 8) (l : Fin 2) (r p a : ℕ) (hr : r + a ≤ 1056) (hp : p + a ≤ 1056) (h0 : 0 < (⟨2, ![a, 128]⟩ : Shape).numel)
    (hb : S1x128.Broadcasts ⟨2, ![a, 128]⟩) (κ : FVec F ⟨2, ![a, 128]⟩ .f32 → FVec F ⟨2, ![a, 128]⟩ .f32 → Pg F α) : Pg F α :=
  ld (bH l) r 0 a 128 hr (le_refl 128) h0 fun hm =>
  ld (bH l) p 0 a 128 hp (le_refl 128) h0 fun hq =>
  ld bXs (grp t l.val / 5) (128 * (grp t l.val % 5)) 1 128 (grp_lt ht l.isLt) (by omega) h_S1x128 fun xs =>
  ld cW r 0 a 128 hr (le_refl 128) h0 fun wm =>
  ld cB r 0 a 128 hr (le_refl 128) h0 fun bm =>
  ld cW p 0 a 128 hp (le_refl 128) h0 fun wp =>
  ld cB p 0 a 128 hp (le_refl 128) h0 fun bp =>
  κ (spC hm hq (broadcastTo _ xs hb) wm bm wp bp) (spS hm hq (broadcastTo _ xs hb) wm bm wp bp)

def slO (n : ℕ) (hn : n < 4) : Memref sig .tc .vmem S1026x128 .bf16 :=
  (bO.slice (Rect.unit (s := S4x1026x128) ![n, 0, 0] S1x1026x128.size (inb3 hn (le_refl 1026) (le_refl 128))) (fun _ => rfl)).squeeze
    S1026x128 squeezes_S1x1026x128_S1026x128
def slY (b g : ℕ) (hb : b < 3) (hg : g < 5) : Memref sig .tc .hbm S1026x128 .bf16 :=
  (aO.slice (Rect.unit (s := S3x1026x640) ![b, 0, 128 * g] S1x1026x128.size (inb3 hb (le_refl 1026) (by omega))) (fun _ => rfl)).squeeze
    S1026x128 squeezes_S1x1026x128_S1026x128

theorem slot_lt (t : ℕ) (l : Fin 2) : 2 * (t % 2) + l.val < 4 := by omega

def startO (t : ℕ) (ht : t < 8) (l : Fin 2) (κ : Pg F α) : Pg F α :=
  .op (.enqueueDma (slO (2 * (t % 2) + l.val) (slot_lt t l))
    (.here (slY (grp t l.val / 5) (grp t l.val % 5) (grp_lt ht l.isLt) (Nat.mod_lt _ (by decide))))
    (.dma (oC (2 * (t % 2) + l.val) (by omega)).sem)
    (((Memref.isWhole_whole _).wordExact_slice rfl _ (slabs3 _)).reshape _ _)
    (((Memref.isWhole_whole _).wordExact_slice rfl _ (slabs3 _)).reshape _ _) ⟨Or.inl rfl, trivial⟩) fun _ => κ

def waitO (t : ℕ) (ht : t < 8) (l : Fin 2) (κ : Pg F α) : Pg F α :=
  .op (.waitDma2 (oC (2 * (t % 2) + l.val) (by omega)).sem (slO (2 * (t % 2) + l.val) (slot_lt t l))
    (slY (grp t l.val / 5) (grp t l.val % 5) (grp_lt ht l.isLt) (Nat.mod_lt _ (by decide)))
    (((Memref.isWhole_whole _).wordExact_slice rfl _ (slabs3 _)).reshape _ _)
    (((Memref.isWhole_whole _).wordExact_slice rfl _ (slabs3 _)).reshape _ _)) fun _ => κ

/-- Over the lane groups of tile `t`. -/
def forL (t : ℕ) (f : Fin 2 → Pg F α → Pg F α) (κ : Pg F α) : Pg F α :=
  match t with
  | 0 => f 0 κ
  | _ + 1 => f 0 (f 1 κ)

def waitsO (t : ℕ) (ht : t < 8) (κ : Pg F α) : Pg F α := forL t (waitO t ht) κ

def nyquist (t : ℕ) (ht : t < 8) (l : Fin 2) (κ : Pg F α) : Pg F α :=
  loads t ht l 512 1025 8 (by decide) (by decide) h_S8x128 broadcasts_S1x128_S8x128 fun c s =>
  put (bS l) 0 1 (by decide) h_S1x128 shapeCasts_S1x128_S1x128 (extractStridedSlice S1x128 ![0, 0] c slices_S8x128_o0_0_S1x128) <|
  put (bS l) 513 1 (by decide) h_S1x128 shapeCasts_S1x128_S1x128 (extractStridedSlice S1x128 ![0, 0] s slices_S8x128_o0_0_S1x128) κ

def group (t : ℕ) (ht : t < 8) (l : Fin 2) (a : ℕ) (ha : a < 16) (κ : Pg F α) : Pg F α :=
  loads t ht l (32 * a) (513 + 32 * a) 32 (by omega) (by omega) h_S32x128 broadcasts_S1x128_S32x128 fun c s =>
  putO (2 * (t % 2) + l.val) (32 * a) 32 (slot_lt t l) (by omega) (by omega) (by decide) h_S1x32x128
    (shapeCast S1x32x128 (truncf .bf16 c bitsLt_bf16_f32 : FVec F S32x128 .bf16) shapeCasts_S32x128_S1x32x128) <|
  put (bS l) (1 + 32 * a) 32 (by omega) h_S32x128 shapeCasts_S32x128_S32x128 s <|
  ld (bS l) (32 * a) 0 32 128 (by omega) (le_refl 128) h_S32x128 fun v =>
  putO (2 * (t % 2) + l.val) (512 + 32 * a) 32 (slot_lt t l) (by omega) (by omega) (by decide) h_S1x32x128
    (shapeCast S1x32x128 (truncf .bf16 v bitsLt_bf16_f32 : FVec F S32x128 .bf16) shapeCasts_S32x128_S1x32x128) κ

def finish (t : ℕ) (ht : t < 8) (l : Fin 2) (κ : Pg F α) : Pg F α :=
  ld (bS l) 512 0 2 128 (by decide) (le_refl 128) h_S2x128 fun v =>
  putO (2 * (t % 2) + l.val) 1024 2 (slot_lt t l) (by decide) (by decide) (by decide) h_S1x2x128
    (shapeCast S1x2x128 (truncf .bf16 v bitsLt_bf16_f32 : FVec F S2x128 .bf16) shapeCasts_S2x128_S1x2x128) <|
  startO t ht l κ

/-- Item `j` of the work on the spectrum of tile `t`. -/
def item (t : ℕ) (ht : t < 8) (j : ℕ) (κ : Pg F α) : Pg F α :=
  match j with
  | 0 => bif Nat.blt t 2 then forL t (nyquist t ht) κ
    else waitsO (t - 2) (by omega) (forL t (nyquist t ht) κ)
  | j + 1 =>
    bif Nat.blt j (16 * lanes t) then
      group t ht ⟨(j % lanes t) % 2, Nat.mod_lt _ (by decide)⟩ (j / lanes t % 16) (Nat.mod_lt _ (by decide)) κ
    else forL t (finish t ht) κ

def nItems (t : ℕ) : ℕ := 2 + 16 * lanes t

/-- Items `i`, …, `i + j - 1`. -/
def items (t : ℕ) (ht : t < 8) : (j i : ℕ) → Pg F α → Pg F α
  | 0, _, κ => κ
  | j + 1, i, κ => item t ht i (items t ht j (i + 1) κ)

/-- Step `k` of tile `0`. -/
def step0 (k : ℕ) (hk : k < 24) (s : Mxu F) (κ : Mxu F → Pg F α) : Pg F α :=
  waitWX k hk <| kStep 0 k (by decide) hk s κ

def tile0 (s : Mxu F) (κ : Mxu F → Pg F α) : Pg F α :=
  forK 24 (fun k hk => step0 k hk) 24 0 rfl s fun s => drain 0 s κ

/-- Step `k` of tile `t`, and its share of the work on the spectrum of the tile before. -/
def stepN (t k : ℕ) (ht : t < 8) (h : 1 ≤ t) (hk : k < 24) (s : Mxu F) (κ : Mxu F → Pg F α) : Pg F α :=
  let rest : Pg F α := kStep t k ht hk s fun s =>
    items (t - 1) (by omega) (nItems (t - 1) * (k + 1) / 24 - nItems (t - 1) * k / 24) (nItems (t - 1) * k / 24) (κ s)
  bif Nat.beq (k % 8) 0 then waitXT t (k / 8) ht h (by omega) rest else rest

def tileN (t : ℕ) (ht : t < 8) (h : 1 ≤ t) (s : Mxu F) (κ : Mxu F → Pg F α) : Pg F α :=
  forK 24 (fun k hk => stepN t k ht h hk) 24 0 rfl s fun s => drain t s κ

def body (i : grid0.Coords) (κ : Mxu F → Pg F α) : Pg F α :=
  prologue i <|
  tile0 Mxu.init fun s =>
  forK 7 (fun n hn => tileN (n + 1) (by omega) (by omega)) 7 0 rfl s fun s =>
  items 7 (by decide) (nItems 7) 0 <|
  waitsO 6 (by decide) <| waitsO 7 (by decide) <| κ s

end Cert.KernelIdeal
-- ==== Proof.Own.lean ====
/- Part of a buffer held at a stated array: `own c m P φ` holds the elements of `m` whose index satisfies `P`, and they
   read `φ`. The rules for loads, stores and copies are restated over it. -/
module

public import Idealize.ShloMosaic.Lib.Transfers
public import Idealize.ShloMosaic.Lib.Tactic
public import Idealize.ShloMosaic.Lib.Exec.Geometry

@[expose] public section

noncomputable section

namespace Cert.Own

open Idealize.ShloMosaic Idealize.ShloMosaic.Transfers
open Idealize.SL
open Idealize.SL.BI (sProp bigSep)
open scoped Idealize.SL.BI
open Idealize.SL.BI.BIBase Idealize.SL.BI.Laws Idealize.SL.Sem Idealize.SL.ProofMode
open Idealize.SL.RA
open Classical

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (c : Thread nD τ)

/-- The indices satisfying `P`. -/
def those {s : Shape} (P : s.Idx → Prop) : Finset s.Idx := Finset.univ.filter P

theorem mem_those {s : Shape} {P : s.Idx → Prop} {x : s.Idx} : x ∈ those P ↔ P x := by simp [those]

/-- The elements of `m` at the indices satisfying `P`, reading `φ`. -/
def own {sp : Space} {s : Shape} {e : EltTy} (m : Memref sig c.2.kind sp s e) (P : s.Idx → Prop) (φ : s.Idx → Val e) : sProp 𝕄 :=
  iprop(∃ f : Buf Val (m.view.loc c), ⌜∀ x, P x → m.view.read Val f x = φ x⌝ ∗ (m.view.loc c ↦[m.view.setOn (those P)]{fullShare} f))

section Laws

variable {sp : Space} {s : Shape} {e : EltTy} {m : Memref sig c.2.kind sp s e} {P A B : s.Idx → Prop} {φ ψ : s.Idx → Val e}

theorem own_val (h : ∀ x, P x → φ x = ψ x) : (own c m P φ : sProp 𝕄) ⊢ own c m P ψ := by
  unfold own
  iintro ⟨%f, %hf, H⟩
  iexists f
  isplitr
  · ipureintro; exact fun x hx => (hf x hx).trans (h x hx)
  · iexact H

theorem own_iff (h : ∀ x, P x ↔ A x) : (own c m P φ : sProp 𝕄) ⊢ own c m A φ := by
  have : P = A := funext fun x => propext (h x)
  subst this
  exact .rfl

theorem own_split (h : ∀ x, P x ↔ A x ∨ B x) (hd : ∀ x, A x → B x → False) :
    (own c m P φ : sProp 𝕄) ⊢ iprop(own c m A φ ∗ own c m B φ) := by
  have hS : m.view.setOn (those P) = m.view.setOn (those A) ∪ m.view.setOn (those B) := by
    unfold View.setOn
    rw [← Finset.map_union]
    congr 1
    ext x; simp [mem_those, h]
  have hD : Disjoint (m.view.setOn (those A)) (m.view.setOn (those B)) := by
    unfold View.setOn
    rw [Finset.disjoint_map, Finset.disjoint_left]
    exact fun x hx hy => hd x (mem_those.1 hx) (mem_those.1 hy)
  unfold own
  iintro ⟨%f, %hf, H⟩
  rw [hS]
  ihave H := (pointsTo_union hD).1 $$ H
  icases H with ⟨HA, HB⟩
  isplitl [HA]
  · iexists f
    isplitr
    · ipureintro; exact fun x hx => hf x ((h x).2 (.inl hx))
    · iexact HA
  · iexists f
    isplitr
    · ipureintro; exact fun x hx => hf x ((h x).2 (.inr hx))
    · iexact HB

theorem own_join (h : ∀ x, P x ↔ A x ∨ B x) (hd : ∀ x, A x → B x → False) :
    iprop(own c m A φ ∗ own c m B φ) ⊢ (own c m P φ : sProp 𝕄) := by
  have hS : m.view.setOn (those P) = m.view.setOn (those A) ∪ m.view.setOn (those B) := by
    unfold View.setOn
    rw [← Finset.map_union]
    congr 1
    ext x; simp [mem_those, h]
  have hD : Disjoint (m.view.setOn (those A)) (m.view.setOn (those B)) := by
    unfold View.setOn
    rw [Finset.disjoint_map, Finset.disjoint_left]
    exact fun x hx hy => hd x (mem_those.1 hx) (mem_those.1 hy)
  unfold own
  iintro ⟨⟨%f, %hf, HA⟩, ⟨%g, %hg, HB⟩⟩
  iexists (m.view.setOn (those B)).piecewise g f
  isplitr
  · ipureintro
    intro x hx
    by_cases hB : B x
    · rw [← hg x hB]
      exact View.read_congr_at x (Finset.piecewise_eq_of_mem _ _ _ (m.view.mem_setOn.2 (mem_those.2 hB)))
    · have hA : A x := ((h x).1 hx).resolve_right hB
      rw [← hf x hA]
      exact View.read_congr_at x (Finset.piecewise_eq_of_notMem _ _ _ fun hm => hB (mem_those.1 (m.view.mem_setOn.1 hm)))
  · rw [hS]
    iapply (pointsTo_join hD)
    isplitl [HA] <;> iassumption

/-- A rectangle of a memref, held as a memref and as part of the whole. -/
theorem own_slice (r : Rect s) (hr : ∀ a, r.stride a = 1) :
    (own c m (fun x => ∃ j, r.emb j = x) φ : sProp 𝕄) ⊢ own c (m.slice r hr) (fun _ => True) (fun j => φ (r.emb j)) := by
  have hS : (m.slice r hr).view.setOn (those fun _ => True) = m.view.setOn (those fun x => ∃ j, r.emb j = x) := by
    show ((m.view.slice r).setOn _) = _
    rw [View.setOn_slice]
    congr 1
    ext x; simp [mem_those]
  unfold own
  iintro ⟨%f, %hf, H⟩
  iexists f
  isplitr
  · ipureintro; exact fun x _ => hf _ ⟨x, rfl⟩
  · rw [hS]; iexact H

theorem own_unslice (r : Rect s) (hr : ∀ a, r.stride a = 1) :
    (own c (m.slice r hr) (fun _ => True) (fun j => φ (r.emb j)) : sProp 𝕄) ⊢ own c m (fun x => ∃ j, r.emb j = x) φ := by
  have hS : (m.slice r hr).view.setOn (those fun _ => True) = m.view.setOn (those fun x => ∃ j, r.emb j = x) := by
    show ((m.view.slice r).setOn _) = _
    rw [View.setOn_slice]
    congr 1
    ext x; simp [mem_those]
  unfold own
  rw [hS]
  iintro ⟨%f, %hf, H⟩
  iexists f
  isplitr
  · ipureintro
    rintro x ⟨j, rfl⟩
    exact hf j trivial
  · iexact H

theorem own_squeeze {s' : Shape} (h : s.Squeezes s') :
    (own c m (fun _ => True) φ : sProp 𝕄) ⊢ own c (m.squeeze s' h) (fun _ => True) (fun j => φ (Shape.reshapeEquiv h.numel_eq j)) := by
  have hS : (m.squeeze s' h).view.setOn (those fun _ => True) = m.view.setOn (those fun _ => True) := by
    have : ∀ t : Shape, (those fun _ : t.Idx => True) = Finset.univ := fun t => by ext; simp [mem_those]
    rw [this, this]
    exact View.set_reshape _ _
  unfold own
  iintro ⟨%f, %hf, H⟩
  iexists f
  isplitr
  · ipureintro; exact fun x _ => hf _ trivial
  · rw [hS]; iexact H

theorem own_unsqueeze {s' : Shape} (h : s.Squeezes s') :
    (own c (m.squeeze s' h) (fun _ => True) (fun j => φ (Shape.reshapeEquiv h.numel_eq j)) : sProp 𝕄) ⊢ own c m (fun _ => True) φ := by
  have hS : (m.squeeze s' h).view.setOn (those fun _ => True) = m.view.setOn (those fun _ => True) := by
    have : ∀ t : Shape, (those fun _ : t.Idx => True) = Finset.univ := fun t => by ext; simp [mem_those]
    rw [this, this]
    exact View.set_reshape _ _
  unfold own
  iintro ⟨%f, %hf, H⟩
  iexists f
  isplitr
  · ipureintro
    intro x _
    have := hf ((Shape.reshapeEquiv h.numel_eq).symm x) trivial
    have h' : m.view.read Val f (Shape.reshapeEquiv h.numel_eq ((Shape.reshapeEquiv h.numel_eq).symm x))
        = φ (Shape.reshapeEquiv h.numel_eq ((Shape.reshapeEquiv h.numel_eq).symm x)) := this
    rwa [Equiv.apply_symm_apply] at h'
  · rw [hS]; iexact H

end Laws

theorem own_whole (b : Ref sig c.2.kind) (φ : b.ty.Contents Val) :
    ((c.loc b) ↦{fullShare} φ : sProp 𝕄) ⊢ own c (Memref.whole b) (fun _ => True) φ := by
  have hS : (Memref.whole b).view.setOn (those fun _ => True) = Finset.univ := by
    have : (those fun _ : b.ty.shape.Idx => True) = Finset.univ := by ext; simp [mem_those]
    rw [this]; exact View.setOn_whole_univ b
  unfold own
  rw [hS]
  iintro H
  iexists φ
  isplitr
  · ipureintro; exact fun x _ => rfl
  · iexact H

theorem own_unwhole (b : Ref sig c.2.kind) (φ : b.ty.Contents Val) :
    (own c (Memref.whole b) (fun _ => True) φ : sProp 𝕄) ⊢ ((c.loc b) ↦{fullShare} φ) := by
  have hS : (Memref.whole b).view.setOn (those fun _ => True) = Finset.univ := by
    have : (those fun _ : b.ty.shape.Idx => True) = Finset.univ := by ext; simp [mem_those]
    rw [this]; exact View.setOn_whole_univ b
  unfold own
  rw [hS]
  iintro ⟨%f, %hf, H⟩
  have : f = φ := funext fun x => hf x trivial
  subst this
  iexact H

section Rules

variable [Preorder Lvl] {Λ : Labels} {defs : Defs nD τ sig Val Λ} (𝒱 : Variants) (bd : Option 𝒱.V)
variable {α : Type} {Q : α → sProp (MT nD τ sig Ix Val Name U Lvl)}

theorem wp_own_load {cs : CoreSpace} {s : Shape} {e : EltTy} {m : Memref sig c.2.kind cs s e} {P : s.Idx → Prop} {φ : s.Idx → Val e}
    {r : LoadRect s} {hl : m.view.LoadsAt r}
    {k : (r.shape.Idx → Val e) → Prog (TpuEff nD τ sig Val Λ c.2) α} (hP : ∀ j, P (r.idx j)) :
    own c m P φ
      ⊢ iprop((own c m P φ -∗ wp frame (wpE defs 𝒱 c bd) Set.univ (k fun j => φ (r.idx j)) Q)
        -∗ wp frame (wpE defs 𝒱 c bd) Set.univ (.op (.load m r hl) k) Q) := by
  have hS : m.view.setOn r.set ⊆ m.view.setOn (those P) := by
    refine Finset.map_subset_map.2 fun x hx => mem_those.2 ?_
    rw [← r.image_idx_univ] at hx
    obtain ⟨j, -, rfl⟩ := Finset.mem_image.1 hx
    exact hP j
  unfold own
  iintro ⟨%f, %hf, H⟩ Hk
  have hv : m.view.readAt Val r f = fun j => φ (r.idx j) := funext fun j => hf _ (hP j)
  iapply (wp_load 𝒱 c bd Set.univ hS) $$ H
  iintro H
  rw [hv]
  iapply Hk
  iexists f
  isplitr
  · ipureintro; exact hf
  · iexact H

theorem wp_own_store {cs : CoreSpace} {s : Shape} {e : EltTy} {m : Memref sig c.2.kind cs s e} {P : s.Idx → Prop} {φ : s.Idx → Val e}
    (ψ : s.Idx → Val e) {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} (hP : ∀ j, P (r.emb j)) (h1 : ∀ j, ψ (r.emb j) = w j)
    (h2 : ∀ x, P x → (∀ j, r.emb j ≠ x) → ψ x = φ x) :
    own c m P φ
      ⊢ iprop((own c m P ψ -∗ wp frame (wpE defs 𝒱 c bd) Set.univ (k ⟨⟩) Q)
        -∗ wp frame (wpE defs 𝒱 c bd) Set.univ (.op (.store m r w Finset.univ hx hm) k) Q) := by
  have hS : (m.access r).setOn Finset.univ ⊆ m.view.setOn (those P) := by
    show (m.view.slice r).setOn Finset.univ ⊆ _
    rw [View.setOn_slice]
    refine Finset.map_subset_map.2 fun x hx => mem_those.2 ?_
    obtain ⟨j, -, rfl⟩ := Finset.mem_map.1 hx
    exact hP j
  unfold own
  iintro ⟨%f, %hf, H⟩ Hk
  iapply (wp_store 𝒱 c bd Set.univ hS) $$ H
  iintro H
  iapply Hk
  iexists ((m.access r).write Val f w Finset.univ)
  isplitr
  · ipureintro
    intro x hx
    by_cases hj : ∃ j, r.emb j = x
    · obtain ⟨j, rfl⟩ := hj
      rw [h1 j]
      exact View.read_write_of_mem (v := m.access r) f w (Finset.mem_univ j)
    · rw [h2 x hx fun j hj' => hj ⟨j, hj'⟩, ← hf x hx]
      refine View.read_congr_at x (View.write_of_not_mem (v := m.access r) f w Finset.univ fun hmem => hj ?_)
      have hmem : m.view.emb x ∈ (m.view.slice r).setOn Finset.univ := hmem
      rw [View.setOn_slice] at hmem
      obtain ⟨j, -, h⟩ := Finset.mem_map.1 (m.view.mem_setOn.1 hmem)
      exact ⟨j, h⟩
  · iexact H

variable (EC : UEmb Counters (MT nD τ sig Ix Val Name U Lvl))

/-- A flight's delivery restated. -/
theorem flight_mono {sm : SemLoc sig} {ι : Ix} {N : ℕ} {D D' : sProp 𝕄} (h : D ⊢ D') :
    Flight EC c sm ι N D ⊢ Flight EC c sm ι N D' := by
  unfold Flight
  iintro ⟨⟨%R, HR, %h1, %h2⟩, Hc⟩
  isplitl [HR]
  · iexists R
    isplitl [HR]; · iexact HR
    isplit
    · ipureintro
      intro K
      refine .trans ?_ (h1 K)
      iintro ⟨HR, HK⟩
      isplitl [HR]; · iexact HR
      iintro ⟨Hs, HD⟩
      iapply HK
      isplitl [Hs]; · iexact Hs
      iapply h $$ HD
    · ipureintro; exact h2
  · iexact Hc

theorem wp_own_dma [Infinite Name] [EC.LandsIn (upEmb : UEmb _ 𝕄)] {sp sp' : Space} {s : Shape} {e : EltTy}
    {src : Memref sig c.2.kind sp s e} {dst : Memref sig c.2.kind sp' s e} {φ ψ : s.Idx → Val e} {sm : DmaSem sig}
    {hsrc : src.view.WordExact} {hdst : dst.view.WordExact} {hsem : DmaTarget.Typed (nD := nD) sp (.dma sm) (.here dst)}
    {k : PUnit → Prog (TpuEff nD τ sig Val Λ c.2) α} (ι : Ix) (hs : 0 < s.numel) :
    iprop(own c src (fun _ => True) φ ∗ own c dst (fun _ => True) ψ ∗ semVal (c, .dma sm) 0)
      ⊢ iprop((Flight EC c (.dma sm) ι dst.view.dmaCredit iprop(own c src (fun _ => True) φ ∗ own c dst (fun _ => True) φ)
              -∗ wp frame (wpE defs 𝒱 c bd) Set.univ (k ⟨⟩) Q)
          -∗ wp frame (wpE defs 𝒱 c bd) Set.univ (.op (.enqueueDma src (.here dst) (.dma sm) hsrc hdst hsem) k) Q) := by
  have hT : (those fun _ : s.Idx => True) = Finset.univ := by ext; simp [mem_those]
  have h0 : ∀ (f : Buf Val (src.view.loc c)) (g : Buf Val (dst.view.loc c)), (∀ x, True → src.view.read Val f x = φ x) →
      iprop((dst.view.loc c ↦[dst.view.setOn (those fun _ => True)]{fullShare}
            (dst.view.write Val g ((ReadAs.same : ReadAs Val s e s e).apply (src.view.read Val f)) Finset.univ))
          ∗ (src.view.loc c ↦[src.view.set]{fullShare} f))
        ⊢ iprop(own c src (fun _ => True) φ ∗ own c dst (fun _ => True) φ : sProp 𝕄) := by
    intro f g hf
    unfold own
    iintro ⟨Hd, Hs⟩
    isplitl [Hs]
    · iexists f
      isplitr
      · ipureintro; exact hf
      · rw [hT]; iexact Hs
    · iexists (dst.view.write Val g ((ReadAs.same : ReadAs Val s e s e).apply (src.view.read Val f)) Finset.univ)
      isplitr
      · ipureintro
        intro x _
        rw [View.read_write_of_mem _ _ (Finset.mem_univ x), ← hf x trivial]
      · iexact Hd
  iintro ⟨Hs, Hd, Hv⟩ Hk
  unfold own
  icases Hs with ⟨%f, %hf, Hs⟩
  icases Hd with ⟨%g, %hg, Hd⟩
  iapply (wp_dmaLocal EC 𝒱 c bd ι (dst.view.dmaCredit) rfl (View.dmaCredit_pos _ hs)
    (Sd := dst.view.setOn (those fun _ => True)) (fs := f) (fd := g) (by rw [hT, View.setOn_univ])) $$ [Hs Hd Hv]
  · isplitl [Hs]
    · rw [hT]; iexact Hs
    isplitl [Hd] <;> iassumption
  iintro Hf
  iapply Hk
  iapply (flight_mono c EC (h0 f g hf)) $$ Hf

end Rules

end Cert.Own
-- ==== Proof.Mx.lean ====
/- The two matrix units' buffers through a tile: each piece of 32 rows is either empty or holds the sum of the passes so
   far. -/
module

public import Idealize.ShloMosaic.Lib.Mxu.Lemmas

@[expose] public section

noncomputable section

namespace Cert.Mx

open Idealize.ShloMosaic Idealize.ShloMosaic.Mxu

variable {F : FTy → Type} [FloatOps F]

variable (F) in
/-- A piece: 32 rows of 256 lanes. -/
abbrev Piece := FVec F (STile 32) .f32

/-- The rows at address `A` of unit `q`: none live, or all live and holding `v`. -/
def MxAt (s : Mxu F) (q : Fin 2) (A : ℕ) (h : Fits A 32) : Option (Piece F) → Prop
  | none => ∀ r : Fin 32, s.live q (row h r) = false
  | some v => (∀ r : Fin 32, s.live q (row h r) = true) ∧ s.read q A h = v

/-- One more pass into a piece. -/
def ac (o : Option (Piece F)) (p : Piece F) : Option (Piece F) :=
  some (match o with
    | none => p
    | some v => addf v p)

variable {s : Mxu F} {q q' : Fin 2} {A A' : ℕ} {h : Fits A 32} {h' : Fits A' 32} {o : Option (Piece F)}

theorem MxAt.acc {φ : FTy} (t : Staged F) (lhs : FVec F (STile 32) φ) (H : MxAt s q A h o) :
    MxAt (s.accBy q t A lhs h) q A h (ac o (t.pass lhs)) := by
  cases o with
  | none => exact ⟨fun r => live_accBy_row s q A t lhs h r, read_accBy_of_not_live s q A t lhs h H⟩
  | some v =>
    refine ⟨fun r => live_accBy_row s q A t lhs h r, ?_⟩
    rw [read_accBy_of_live s q A t lhs h H.1, H.2]

theorem MxAt.acc_ne {φ : FTy} (t : Staged F) (lhs : FVec F (STile 32) φ)
    (hne : q' ≠ q ∨ 4 * A' + 32 ≤ 4 * A ∨ 4 * A + 32 ≤ 4 * A') (H : MxAt s q' A' h' o) :
    MxAt (s.accBy q t A lhs h) q' A' h' o := by
  have hl : ∀ r : Fin 32, (s.accBy q t A lhs h).live q' (row h' r) = s.live q' (row h' r) := by
    intro r
    rw [live_accBy, if_neg]
    rintro ⟨rfl, h1, h2⟩
    have := r.isLt
    simp only [row] at h1 h2
    omega
  cases o with
  | none => exact fun r => (hl r).trans (H r)
  | some v => exact ⟨fun r => (hl r).trans (H.1 r), (read_accBy_ne s q A t lhs h q' A' h' hne).trans H.2⟩

theorem MxAt.pop (H : MxAt s q A h o) : MxAt (s.pop q A 32 h) q A h none := by
  intro r
  have := r.isLt
  show (if q = q ∧ 4 * A ≤ (row h r).val ∧ (row h r).val < 4 * A + 32 then false else s.live q (row h r)) = false
  rw [if_pos]
  simp only [row]
  exact ⟨trivial, by omega, by omega⟩

theorem MxAt.pop_ne (hne : q' ≠ q ∨ 4 * A' + 32 ≤ 4 * A ∨ 4 * A + 32 ≤ 4 * A') (H : MxAt s q' A' h' o) :
    MxAt (s.pop q A 32 h) q' A' h' o := by
  have hl : ∀ r : Fin 32, (s.pop q A 32 h).live q' (row h' r) = s.live q' (row h' r) := by
    intro r
    show (if q' = q ∧ 4 * A ≤ (row h' r).val ∧ (row h' r).val < 4 * A + 32 then false else s.live q' (row h' r)) = _
    rw [if_neg]
    rintro ⟨rfl, h1, h2⟩
    have := r.isLt
    simp only [row] at h1 h2
    omega
  cases o with
  | none => exact fun r => (hl r).trans (H r)
  | some v => exact ⟨fun r => (hl r).trans (H.1 r), (read_pop_ne s q A h q' A' h' hne).trans H.2⟩

theorem MxAt.push {φ : FTy} (r : Fin 2) (tr : Bool) (v : FVec F (STile 256) φ) (H : MxAt s q' A' h' o) :
    MxAt (s.pushed q r tr v) q' A' h' o := by
  cases o with
  | none => intro r'; rw [live_pushed]; exact H r'
  | some v' => exact ⟨fun r' => by rw [live_pushed]; exact H.1 r', by rw [read_pushed]; exact H.2⟩

/-- Where piece `c` of tile `t` accumulates. -/
abbrev ad (t c : ℕ) : ℕ := 8 * ((17 * t + c) % 32)
theorem ad_fits (t c : ℕ) : Fits (ad t c) 32 := ⟨by unfold ad; omega, by omega, by unfold ad; omega⟩

/-- All 32 pieces of both units, numbered as tile `t` numbers them. -/
def MxI (t : ℕ) (s : Mxu F) (g : Fin 2 → ℕ → Option (Piece F)) : Prop :=
  ∀ q c, c < 32 → MxAt s q (ad t c) (ad_fits t c) (g q c)

/-- `g` with piece `c` of unit `q` replaced. -/
def upd (g : Fin 2 → ℕ → Option (Piece F)) (q : Fin 2) (c : ℕ) (o : Option (Piece F)) : Fin 2 → ℕ → Option (Piece F) :=
  fun q' c' => if q' = q ∧ c' = c then o else g q' c'

variable {t : ℕ} {g : Fin 2 → ℕ → Option (Piece F)}

theorem ad_ne {t c c' : ℕ} (hc : c < 32) (hc' : c' < 32) (h : c' ≠ c) : 4 * ad t c' + 32 ≤ 4 * ad t c ∨ 4 * ad t c + 32 ≤ 4 * ad t c' := by
  unfold ad; omega

theorem MxI.acc {c : ℕ} (hc : c < 32) {φ : FTy} (tl : Staged F) (lhs : FVec F (STile 32) φ) (H : MxI t s g) :
    MxI t (s.accBy q tl (ad t c) lhs (ad_fits t c)) (upd g q c (ac (g q c) (tl.pass lhs))) := by
  intro q' c' hc'
  unfold upd
  by_cases hq : q' = q ∧ c' = c
  · obtain ⟨rfl, rfl⟩ := hq
    rw [if_pos ⟨rfl, rfl⟩]
    exact (H _ _ hc).acc tl lhs
  · rw [if_neg hq]
    refine (H _ _ hc').acc_ne tl lhs ?_
    by_cases h : q' = q
    · exact .inr (ad_ne hc hc' fun e => hq ⟨h, e⟩)
    · exact .inl h

theorem MxI.pop {c : ℕ} (hc : c < 32) (H : MxI t s g) :
    MxI t (s.pop q (ad t c) 32 (ad_fits t c)) (upd g q c none) := by
  intro q' c' hc'
  unfold upd
  by_cases hq : q' = q ∧ c' = c
  · obtain ⟨rfl, rfl⟩ := hq
    rw [if_pos ⟨rfl, rfl⟩]
    exact (H _ _ hc).pop
  · rw [if_neg hq]
    refine (H _ _ hc').pop_ne ?_
    by_cases h : q' = q
    · exact .inr (ad_ne hc hc' fun e => hq ⟨h, e⟩)
    · exact .inl h

theorem MxI.push {φ : FTy} (r : Fin 2) (tr : Bool) (v : FVec F (STile 256) φ) (H : MxI t s g) :
    MxI t (s.pushed q r tr v) g := fun q' c' hc' => (H q' c' hc').push r tr v

/-- Everything empty. -/
def Empty (s : Mxu F) : Prop := (∀ q r, s.reg q r = none) ∧ ∀ q R, s.live q R = false

theorem Empty.init : Empty (Mxu.init : Mxu F) := ⟨fun _ _ => rfl, fun _ _ => rfl⟩
theorem Empty.drained (H : Empty s) : s.Drained := ⟨fun q r => by rw [H.1 q r]; rfl, H.2⟩
theorem Empty.mxI (H : Empty s) (t : ℕ) : MxI t s fun _ _ => none := fun q c _ r => H.2 q _
theorem MxI.empty (H : MxI t s fun _ _ => none) (hr : ∀ q r, s.reg q r = none) : Empty s := by
  refine ⟨hr, fun q R => ?_⟩
  have hR := R.isLt
  have hlt : (R.val / 32 + 15 * t) % 32 < 32 := Nat.mod_lt _ (by decide)
  have := H q ((R.val / 32 + 15 * t) % 32) hlt ⟨R.val % 32, Nat.mod_lt _ (by decide)⟩
  rw [← this]
  congr 1
  refine Fin.ext ?_
  simp only [row, ad]
  omega

/-! ## The values -/

/-- One pass: rows `w` of the left operand by the staged block `x`. -/
def pass (x : FVec F (STile 256) .bf16) (w : FVec F (STile 32) .bf16) : Piece F := (⟨.bf16, true, x⟩ : Staged F).pass w

variable (xv : ℕ → FVec F (STile 256) .bf16) (wv : ℕ → ℕ → FVec F (STile 32) .bf16)

/-- The piece at weight row `row` after `k` steps. -/
def pv (row : ℕ) : ℕ → Option (Piece F)
  | 0 => none
  | k + 1 => ac (pv row k) (pass (xv k) (wv row k))

/-- The last rows' piece in unit `q`: that unit takes every other step. -/
def tv (q : ℕ) : ℕ → Option (Piece F)
  | 0 => none
  | k + 1 => if k % 2 = q then ac (tv q k) (pass (xv k) (wv 1024 k)) else tv q k

/-- All pieces after `k` steps. -/
def gAt (k : ℕ) : Fin 2 → ℕ → Option (Piece F) := fun q c =>
  if c < 16 then pv xv wv (512 * q.val + 32 * c) k else if c = 16 then tv xv wv q.val k else none

/-- The pieces within step `k`, when unit `q` has done its pieces before `c`. -/
def gIn (k : ℕ) (q : Fin 2) (c : ℕ) : Fin 2 → ℕ → Option (Piece F) := fun q' c' =>
  if q'.val < q.val ∨ (q' = q ∧ c' < c) then gAt xv wv (k + 1) q' c' else gAt xv wv k q' c'

theorem gAt_zero : gAt xv wv 0 = fun _ _ => none := by
  funext q c
  unfold gAt
  split
  · rfl
  · split <;> rfl

theorem gIn_first (k : ℕ) : gIn xv wv k 0 0 = gAt xv wv k := by
  funext q c
  unfold gIn
  rw [if_neg]
  rintro (h | ⟨-, h⟩)
  · exact absurd h (Nat.not_lt_zero _)
  · exact absurd h (Nat.not_lt_zero _)

theorem gAt_high (k k' : ℕ) (q : Fin 2) {c : ℕ} (h : 17 ≤ c) : gAt xv wv k q c = gAt xv wv k' q c := by
  unfold gAt
  rw [if_neg (by omega), if_neg (by omega), if_neg (by omega), if_neg (by omega)]

theorem gIn_next (k : ℕ) : gIn xv wv k 0 17 = gIn xv wv k 1 0 := by
  funext q c
  unfold gIn
  by_cases hq : q = 0
  · subst hq
    rw [if_pos (show (0 : Fin 2).val < (1 : Fin 2).val ∨ _ from .inl (by decide))]
    by_cases hc : c < 17
    · rw [if_pos (.inr ⟨rfl, hc⟩)]
    · rw [if_neg (by rintro (h | ⟨-, h⟩) <;> omega)]
      exact gAt_high xv wv _ _ _ (by omega)
  · have hq1 : q = 1 := by omega
    subst hq1
    rw [if_neg (by rintro (h | ⟨h, -⟩) <;> revert h <;> decide), if_neg (by
      rintro (h | ⟨-, h⟩)
      · exact absurd h (by decide)
      · omega)]

theorem gIn_last (k : ℕ) : gIn xv wv k 1 17 = gAt xv wv (k + 1) := by
  funext q c
  unfold gIn
  by_cases hq : q = 0
  · subst hq
    rw [if_pos (.inl (by decide))]
  · have hq1 : q = 1 := by omega
    subst hq1
    by_cases hc : c < 17
    · rw [if_pos (.inr ⟨rfl, hc⟩)]
    · rw [if_neg (by rintro (h | ⟨-, h⟩) <;> [exact absurd h (by decide); omega])]
      exact gAt_high xv wv _ _ _ (by omega)

theorem gIn_self (k : ℕ) (q : Fin 2) (c : ℕ) : gIn xv wv k q c q c = gAt xv wv k q c := by
  unfold gIn
  rw [if_neg (by rintro (h | ⟨-, h⟩) <;> omega)]

theorem gIn_succ (k : ℕ) (q : Fin 2) (c : ℕ) : upd (gIn xv wv k q c) q c (gAt xv wv (k + 1) q c) = gIn xv wv k q (c + 1) := by
  funext q' c'
  unfold upd gIn
  by_cases h : q' = q ∧ c' = c
  · obtain ⟨rfl, rfl⟩ := h
    rw [if_pos ⟨rfl, rfl⟩, if_pos (.inr ⟨rfl, by omega⟩)]
  · rw [if_neg h]
    by_cases h1 : q'.val < q.val ∨ (q' = q ∧ c' < c)
    · rw [if_pos h1, if_pos (h1.imp id fun ⟨a, b⟩ => ⟨a, by omega⟩)]
    · rw [if_neg h1, if_neg]
      rintro (h2 | ⟨h2, h3⟩)
      · exact h1 (.inl h2)
      · exact h1 (.inr ⟨h2, by have : c' ≠ c := fun e => h ⟨h2, e⟩
                               omega⟩)

theorem gIn_skip (k : ℕ) (q : Fin 2) (c : ℕ) (h : gAt xv wv (k + 1) q c = gAt xv wv k q c) : gIn xv wv k q c = gIn xv wv k q (c + 1) := by
  rw [← gIn_succ, h, ← gIn_self]
  funext q' c'
  unfold upd
  split
  · rename_i h'; obtain ⟨rfl, rfl⟩ := h'; rfl
  · rfl

theorem gAt_low (k : ℕ) (q : Fin 2) {c : ℕ} (hc : c < 16) :
    gAt xv wv (k + 1) q c = ac (gAt xv wv k q c) (pass (xv k) (wv (512 * q.val + 32 * c) k)) := by
  unfold gAt; rw [if_pos hc, if_pos hc]; rfl

theorem gAt_tail (k : ℕ) (q : Fin 2) (h : k % 2 = q.val) :
    gAt xv wv (k + 1) q 16 = ac (gAt xv wv k q 16) (pass (xv k) (wv 1024 k)) := by
  unfold gAt
  rw [if_neg (by omega), if_pos rfl, if_neg (by omega), if_pos rfl]
  show (if k % 2 = q.val then _ else _) = _
  rw [if_pos h]

theorem gAt_tail_ne (k : ℕ) (q : Fin 2) (h : ¬ k % 2 = q.val) : gAt xv wv (k + 1) q 16 = gAt xv wv k q 16 := by
  unfold gAt
  rw [if_neg (by omega), if_pos rfl, if_neg (by omega), if_pos rfl]
  show (if k % 2 = q.val then _ else _) = _
  rw [if_neg h]

/-- What pops out at the end of a tile. -/
def fin (o : Option (Piece F)) : Piece F := o.getD fun _ => FloatOps.ofBits .f32 0

theorem MxAt.read_eq (H : MxAt s q A h o) : s.read q A h = fin o := by
  cases o with
  | none =>
    funext i
    exact s.clean q _ _ (H (i 0))
  | some v => exact H.2

end Cert.Mx
-- ==== Proof.Rules.lean ====
/- The rules for the single operations of the kernel's body, over arrays indexed by natural numbers. -/
module

public import proofs.«01_k».proof.Proof.Str
public import proofs.«01_k».proof.Proof.Own
public import proofs.«01_k».proof.Proof.Mx
public import Idealize.ShloMosaic.Lib.Pipeline.FrameBody
public import Idealize.ShloMosaic.Lib.Pipeline.Value
public import Idealize.ShloMosaic.Lib.Tactic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own

variable {F : FTy → Type} [FloatOps F] [Facts]

local notation "𝕄" => MT nD τ sig Unit (Elt F) ℕ (Pipeline.UD sig nD τ) ℕ

variable (d : Dev nD)

/-! ## Parts of buffers at arrays indexed by natural numbers -/

section Owned

variable {sp : Space} {e : EltTy}

def O1 {R : ℕ} (m : Memref sig .tc sp ⟨1, ![R]⟩ e) (A : ℕ → Elt F e) : sProp 𝕄 :=
  own (d : Thread nD τ) m (fun _ => True) (fun x => A (x (0 : Fin 1)).val)

def O2 {R C : ℕ} (m : Memref sig .tc sp ⟨2, ![R, C]⟩ e) (P : ℕ → ℕ → Prop) (A : ℕ → ℕ → Elt F e) : sProp 𝕄 :=
  own (d : Thread nD τ) m (fun x => P (x (0 : Fin 2)).val (x (1 : Fin 2)).val) (fun x => A (x (0 : Fin 2)).val (x (1 : Fin 2)).val)

def O3 {R C D : ℕ} (m : Memref sig .tc sp ⟨3, ![R, C, D]⟩ e) (P : ℕ → ℕ → ℕ → Prop) (A : ℕ → ℕ → ℕ → Elt F e) : sProp 𝕄 :=
  own (d : Thread nD τ) m (fun x => P (x (0 : Fin 3)).val (x (1 : Fin 3)).val (x (2 : Fin 3)).val)
    (fun x => A (x (0 : Fin 3)).val (x (1 : Fin 3)).val (x (2 : Fin 3)).val)

/-- Everything. -/
abbrev T2 : ℕ → ℕ → Prop := fun _ _ => True
abbrev T3 : ℕ → ℕ → ℕ → Prop := fun _ _ _ => True

section Two
variable {R C : ℕ} {m : Memref sig .tc sp ⟨2, ![R, C]⟩ e} {P P₁ P₂ : ℕ → ℕ → Prop} {A B : ℕ → ℕ → Elt F e}

theorem O2_val (h : ∀ x y, x < R → y < C → P x y → A x y = B x y) : O2 d m P A ⊢ O2 d m P B :=
  own_val _ fun x hx => h _ _ (x (0 : Fin 2)).isLt (x (1 : Fin 2)).isLt hx

theorem O2_iff (h : ∀ x y, x < R → y < C → (P x y ↔ P₁ x y)) : O2 d m P A ⊢ O2 d m P₁ A :=
  own_iff _ fun x => h _ _ (x (0 : Fin 2)).isLt (x (1 : Fin 2)).isLt

theorem O2_split (h : ∀ x y, x < R → y < C → (P x y ↔ P₁ x y ∨ P₂ x y)) (hd : ∀ x y, x < R → y < C → P₁ x y → P₂ x y → False) :
    O2 d m P A ⊢ iprop(O2 d m P₁ A ∗ O2 d m P₂ A) :=
  own_split _ (fun x => h _ _ (x (0 : Fin 2)).isLt (x (1 : Fin 2)).isLt)
    (fun x => hd _ _ (x (0 : Fin 2)).isLt (x (1 : Fin 2)).isLt)

theorem O2_join (h : ∀ x y, x < R → y < C → (P x y ↔ P₁ x y ∨ P₂ x y)) (hd : ∀ x y, x < R → y < C → P₁ x y → P₂ x y → False) :
    iprop(O2 d m P₁ A ∗ O2 d m P₂ A) ⊢ O2 d m P A :=
  own_join _ (fun x => h _ _ (x (0 : Fin 2)).isLt (x (1 : Fin 2)).isLt)
    (fun x => hd _ _ (x (0 : Fin 2)).isLt (x (1 : Fin 2)).isLt)
end Two

section Three
variable {R C D : ℕ} {m : Memref sig .tc sp ⟨3, ![R, C, D]⟩ e} {P P₁ P₂ : ℕ → ℕ → ℕ → Prop} {A B : ℕ → ℕ → ℕ → Elt F e}

theorem O3_val (h : ∀ x y z, x < R → y < C → z < D → P x y z → A x y z = B x y z) : O3 d m P A ⊢ O3 d m P B :=
  own_val _ fun x hx => h _ _ _ (x (0 : Fin 3)).isLt (x (1 : Fin 3)).isLt (x (2 : Fin 3)).isLt hx

theorem O3_iff (h : ∀ x y z, x < R → y < C → z < D → (P x y z ↔ P₁ x y z)) : O3 d m P A ⊢ O3 d m P₁ A :=
  own_iff _ fun x => h _ _ _ (x (0 : Fin 3)).isLt (x (1 : Fin 3)).isLt (x (2 : Fin 3)).isLt

theorem O3_split (h : ∀ x y z, x < R → y < C → z < D → (P x y z ↔ P₁ x y z ∨ P₂ x y z))
    (hd : ∀ x y z, x < R → y < C → z < D → P₁ x y z → P₂ x y z → False) :
    O3 d m P A ⊢ iprop(O3 d m P₁ A ∗ O3 d m P₂ A) :=
  own_split _ (fun x => h _ _ _ (x (0 : Fin 3)).isLt (x (1 : Fin 3)).isLt (x (2 : Fin 3)).isLt)
    (fun x => hd _ _ _ (x (0 : Fin 3)).isLt (x (1 : Fin 3)).isLt (x (2 : Fin 3)).isLt)

theorem O3_join (h : ∀ x y z, x < R → y < C → z < D → (P x y z ↔ P₁ x y z ∨ P₂ x y z))
    (hd : ∀ x y z, x < R → y < C → z < D → P₁ x y z → P₂ x y z → False) :
    iprop(O3 d m P₁ A ∗ O3 d m P₂ A) ⊢ O3 d m P A :=
  own_join _ (fun x => h _ _ _ (x (0 : Fin 3)).isLt (x (1 : Fin 3)).isLt (x (2 : Fin 3)).isLt)
    (fun x => hd _ _ _ (x (0 : Fin 3)).isLt (x (1 : Fin 3)).isLt (x (2 : Fin 3)).isLt)
end Three

end Owned

/-! ## The rules -/

variable {defs : Defs nD τ sig (Elt F) Λ₀} {α : Type} {Q : α → sProp (MT nD τ sig Unit (Elt F) ℕ (Pipeline.UD sig nD τ) ℕ)}

/-- The weakest precondition of a piece of the body. -/
abbrev WP (defs : Defs nD τ sig (Elt F) Λ₀) (d : Dev nD) (p : Pg F α) (Q : α → sProp 𝕄) : sProp 𝕄 :=
  wp frame (wpE defs Variants.none (d : Thread nD τ) none) Set.univ p Q

theorem wp_ld {R C : ℕ} {e : EltTy} {m : Memref sig .tc .vmem ⟨2, ![R, C]⟩ e} {r c a b : ℕ} {hr : r + a ≤ R} {hc : c + b ≤ C}
    {hp : 0 < (⟨2, ![a, b]⟩ : Shape).numel} {κ : Vec F ⟨2, ![a, b]⟩ e → Pg F α} {P : ℕ → ℕ → Prop} {A : ℕ → ℕ → Elt F e}
    (hP : ∀ i j, i < a → j < b → P (r + i) (c + j)) :
    O2 d m P A ⊢ iprop((O2 d m P A -∗ WP defs d (κ fun j => A (r + (j (0 : Fin 2)).val) (c + (j (1 : Fin 2)).val)) Q)
      -∗ WP defs d (ld m r c a b hr hc hp κ) Q) := by
  have hv : (fun j : (⟨2, ![a, b]⟩ : Shape).Idx => A (r + (j (0 : Fin 2)).val) (c + (j (1 : Fin 2)).val))
      = fun j => A (r + 1 * (j (0 : Fin 2)).val) (c + 1 * (j (1 : Fin 2)).val) := by
    funext j; rw [one_mul, one_mul]
  rw [hv]
  refine wp_own_load (d : Thread nD τ) Variants.none none
    (r := (Rect.unit (s := ⟨2, ![R, C]⟩) ![r, c] (⟨2, ![a, b]⟩ : Shape).size (inb2 hr hc)).toLoadRect)
    (k := κ) (m := m) (P := fun x => P (x (0 : Fin 2)).val (x (1 : Fin 2)).val) fun j => ?_
  show P (r + 1 * (j (0 : Fin 2)).val) (c + 1 * (j (1 : Fin 2)).val)
  rw [one_mul, one_mul]
  exact hP _ _ (j (0 : Fin 2)).isLt (j (1 : Fin 2)).isLt

theorem wp_ld1 {m : Memref sig .tc .vmem S1026 .f32} {r a : ℕ} {hr : r + a ≤ 1026} {hp : 0 < (⟨1, ![a]⟩ : Shape).numel}
    {κ : Vec F ⟨1, ![a]⟩ .f32 → Pg F α} {A : ℕ → Elt F .f32} :
    O1 d m A ⊢ iprop((O1 d m A -∗ WP defs d (κ fun j => A (r + (j (0 : Fin 1)).val)) Q) -∗ WP defs d (ld1 m r a hr hp κ) Q) := by
  have hv : (fun j : (⟨1, ![a]⟩ : Shape).Idx => A (r + (j (0 : Fin 1)).val)) = fun j => A (r + 1 * (j (0 : Fin 1)).val) := by
    funext j; rw [one_mul]
  rw [hv]
  exact wp_own_load (d : Thread nD τ) Variants.none none
    (r := (Rect.unit (s := S1026) ![r] (⟨1, ![a]⟩ : Shape).size (inb1 hr)).toLoadRect) (k := κ) (m := m) fun j => trivial

theorem wp_st {R C : ℕ} {m : Memref sig .tc .vmem ⟨2, ![R, C]⟩ .f32} {r c a b : ℕ} {hr : r + a ≤ R} {hc : c + b ≤ C}
    {hp : 0 < (⟨2, ![a, b]⟩ : Shape).numel} {v : FVec F ⟨2, ![a, b]⟩ .f32} {κ : Pg F α} {P : ℕ → ℕ → Prop} {A : ℕ → ℕ → Elt F .f32}
    (B : ℕ → ℕ → Elt F .f32) (hP : ∀ i j, i < a → j < b → P (r + i) (c + j))
    (h1 : ∀ j : (⟨2, ![a, b]⟩ : Shape).Idx, B (r + (j (0 : Fin 2)).val) (c + (j (1 : Fin 2)).val) = v j)
    (h2 : ∀ x y, x < R → y < C → P x y → ¬(r ≤ x ∧ x < r + a ∧ c ≤ y ∧ y < c + b) → B x y = A x y) :
    O2 d m P A ⊢ iprop((O2 d m P B -∗ WP defs d κ Q) -∗ WP defs d (st m r c a b hr hc hp v κ) Q) := by
  refine wp_own_store (d : Thread nD τ) Variants.none none
    (r := Rect.unit (s := ⟨2, ![R, C]⟩) ![r, c] (⟨2, ![a, b]⟩ : Shape).size (inb2 hr hc))
    (k := fun _ => κ) (m := m) (P := fun x => P (x (0 : Fin 2)).val (x (1 : Fin 2)).val)
    (fun x => B (x (0 : Fin 2)).val (x (1 : Fin 2)).val) (fun j => ?_) (fun j => ?_) (fun x hx hn => ?_)
  · show P (r + 1 * (j (0 : Fin 2)).val) (c + 1 * (j (1 : Fin 2)).val)
    rw [one_mul, one_mul]
    exact hP _ _ (j (0 : Fin 2)).isLt (j (1 : Fin 2)).isLt
  · show B (r + 1 * (j (0 : Fin 2)).val) (c + 1 * (j (1 : Fin 2)).val) = v j
    rw [one_mul, one_mul]
    exact h1 j
  · refine h2 _ _ (x (0 : Fin 2)).isLt (x (1 : Fin 2)).isLt hx fun ⟨h3, h4, h5, h6⟩ => ?_
    refine hn (fun a' => match a' with
      | ⟨0, _⟩ => ⟨(x (0 : Fin 2)).val - r, by show _ < a; omega⟩
      | ⟨1, _⟩ => ⟨(x (1 : Fin 2)).val - c, by show _ < b; omega⟩) ?_
    funext a'
    match a' with
    | ⟨0, _⟩ => exact Fin.ext (show r + 1 * ((x (0 : Fin 2)).val - r) = (x (0 : Fin 2)).val by omega)
    | ⟨1, _⟩ => exact Fin.ext (show c + 1 * ((x (1 : Fin 2)).val - c) = (x (1 : Fin 2)).val by omega)

theorem wp_put {R : ℕ} {m : Memref sig .tc .vmem ⟨2, ![R, 128]⟩ .f32} {r a : ℕ} {hr : r + a ≤ R}
    {hp : 0 < (⟨2, ![a, 128]⟩ : Shape).numel} {hs : (⟨2, ![a, 128]⟩ : Shape).ShapeCasts ⟨2, ![a, 128]⟩}
    {v : FVec F ⟨2, ![a, 128]⟩ .f32} {κ : Pg F α} {A : ℕ → ℕ → Elt F .f32} (B : ℕ → ℕ → Elt F .f32)
    (h1 : ∀ j : (⟨2, ![a, 128]⟩ : Shape).Idx, B (r + (j (0 : Fin 2)).val) (j (1 : Fin 2)).val = v j)
    (h2 : ∀ x y, x < R → y < 128 → ¬(r ≤ x ∧ x < r + a) → B x y = A x y) :
    O2 d m T2 A ⊢ iprop((O2 d m T2 B -∗ WP defs d κ Q) -∗ WP defs d (put m r a hr hp hs v κ) Q) := by
  unfold put
  iintro H Hk
  iapply (wp_ld d (P := T2) fun _ _ _ _ => trivial) $$ H
  iintro H
  iapply (wp_st d B (P := T2) (fun _ _ _ _ => trivial) (fun j => ?_) (fun x y hx hy _ hn => h2 x y hx hy fun h => hn ⟨h.1, h.2, Nat.zero_le _, by omega⟩)) $$ H
  · rw [Nat.zero_add, shapeCast_self]; exact h1 j
  iexact Hk

theorem wp_putO {n r a : ℕ} {hn : n < 4} {hr : r + a ≤ 1026} {h2r : 2 ∣ r} {h2a : 2 ∣ a}
    {hp : 0 < (⟨3, ![1, a, 128]⟩ : Shape).numel} {v : FVec F ⟨3, ![1, a, 128]⟩ .bf16} {κ : Pg F α} {A : ℕ → ℕ → ℕ → Elt F .bf16}
    (B : ℕ → ℕ → ℕ → Elt F .bf16)
    (h1 : ∀ j : (⟨3, ![1, a, 128]⟩ : Shape).Idx, B n (r + (j (1 : Fin 3)).val) (j (2 : Fin 3)).val = v j)
    (h2 : ∀ y z, y < 1026 → z < 128 → ¬(r ≤ y ∧ y < r + a) → B n y z = A n y z) :
    O3 d bO (fun s _ _ => s = n) A
      ⊢ iprop((O3 d bO (fun s _ _ => s = n) B -∗ WP defs d κ Q) -∗ WP defs d (putO n r a hn hr h2r h2a hp v κ) Q) := by
  have hb : ∀ j : (⟨3, ![1, a, 128]⟩ : Shape).Idx, n + 1 * (j (0 : Fin 3)).val = n := by
    intro j
    have : (j (0 : Fin 3)).val < 1 := (j (0 : Fin 3)).isLt
    omega
  unfold putO O3
  iintro H Hk
  iapply (wp_own_load (d : Thread nD τ) Variants.none none (m := bO)
    (r := (Rect.unit (s := S4x1026x128) ![n, r, 0] (⟨3, ![1, a, 128]⟩ : Shape).size (inb3 hn hr (le_refl 128))).toLoadRect)
    (P := fun x => (x (0 : Fin 3)).val = n) (φ := fun x => A (x (0 : Fin 3)).val (x (1 : Fin 3)).val (x (2 : Fin 3)).val) hb) $$ H
  iintro H
  iapply (wp_own_store (d : Thread nD τ) Variants.none none
    (r := Rect.unit (s := S4x1026x128) ![n, r, 0] (⟨3, ![1, a, 128]⟩ : Shape).size (inb3 hn hr (le_refl 128)))
    (k := fun _ => κ) (m := bO) (P := fun x => (x (0 : Fin 3)).val = n)
    (fun x => B (x (0 : Fin 3)).val (x (1 : Fin 3)).val (x (2 : Fin 3)).val) hb (fun j => ?_) (fun x hx hn' => ?_)) $$ H
  · show B (n + 1 * (j (0 : Fin 3)).val) (r + 1 * (j (1 : Fin 3)).val) (0 + 1 * (j (2 : Fin 3)).val) = v j
    rw [hb j, one_mul, one_mul, Nat.zero_add]
    exact h1 j
  · show B (x (0 : Fin 3)).val (x (1 : Fin 3)).val (x (2 : Fin 3)).val = A (x (0 : Fin 3)).val (x (1 : Fin 3)).val (x (2 : Fin 3)).val
    have hx : (x (0 : Fin 3)).val = n := hx
    rw [hx]
    refine h2 _ _ (x (1 : Fin 3)).isLt (x (2 : Fin 3)).isLt fun ⟨h3, h4⟩ => ?_
    have hz : (x (2 : Fin 3)).val < 128 := (x (2 : Fin 3)).isLt
    refine hn' (fun a' => match a' with
      | ⟨0, _⟩ => ⟨0, by show _ < 1; omega⟩
      | ⟨1, _⟩ => ⟨(x (1 : Fin 3)).val - r, by show _ < a; omega⟩
      | ⟨2, _⟩ => ⟨(x (2 : Fin 3)).val, by show _ < 128; omega⟩) ?_
    funext a'
    match a' with
    | ⟨0, _⟩ => exact Fin.ext (show n + 1 * 0 = (x (0 : Fin 3)).val by omega)
    | ⟨1, _⟩ => exact Fin.ext (show r + 1 * ((x (1 : Fin 3)).val - r) = (x (1 : Fin 3)).val by omega)
    | ⟨2, _⟩ => exact Fin.ext (show 0 + 1 * (x (2 : Fin 3)).val = (x (2 : Fin 3)).val by omega)
  iexact Hk

/-! ## Loops -/

theorem wp_forU {n : ℕ} {f : (i : ℕ) → i < n → Pg F α → Pg F α} (Inv : ℕ → sProp 𝕄)
    (hstep : ∀ i h κ, Inv i ⊢ iprop((Inv (i + 1) -∗ WP defs d κ Q) -∗ WP defs d (f i h κ) Q)) :
    ∀ (j i : ℕ) (h : i + j = n) (κ : Pg F α), Inv i ⊢ iprop((Inv n -∗ WP defs d κ Q) -∗ WP defs d (forU n f j i h κ) Q)
  | 0, i, h, κ => by
    obtain rfl : i = n := h
    iintro H Hk
    iapply Hk $$ H
  | j + 1, i, h, κ => by
    iintro H Hk
    iapply (hstep i (by omega) (forU n f j (i + 1) (by omega) κ)) $$ H
    iintro H
    iapply (wp_forU Inv hstep j (i + 1) _ κ) $$ H
    iexact Hk

theorem wp_forK {σ : Type} {n : ℕ} {f : (i : ℕ) → i < n → σ → (σ → Pg F α) → Pg F α} (Inv : ℕ → σ → sProp 𝕄)
    (hstep : ∀ i h s κ, Inv i s ⊢ iprop((∀ s', Inv (i + 1) s' -∗ WP defs d (κ s') Q) -∗ WP defs d (f i h s κ) Q)) :
    ∀ (j i : ℕ) (h : i + j = n) (s : σ) (κ : σ → Pg F α),
      Inv i s ⊢ iprop((∀ s', Inv n s' -∗ WP defs d (κ s') Q) -∗ WP defs d (forK n f j i h s κ) Q)
  | 0, i, h, s, κ => by
    obtain rfl : i = n := h
    iintro H Hk
    iapply Hk $$ H
  | j + 1, i, h, s, κ => by
    iintro H Hk
    iapply (hstep i (by omega) s (fun s' => forK n f j (i + 1) (by omega) s' κ)) $$ H
    iintro %s' H
    iapply (wp_forK Inv hstep j (i + 1) _ s' κ) $$ H
    iexact Hk

end Cert.KernelIdeal
-- ==== Proof.Step.lean ====
/- One step along the contracted axis, on both matrix units. -/
module

public import proofs.«01_k».proof.Proof.Rules

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx
open Shapes1.Facts₀ Shapes2.Facts₀ K0.Facts₀ Facts₀ Facts

variable {F : FTy → Type} [FloatOps F] [Facts]

local notation "𝕄" => MT nD τ sig Unit (Elt F) ℕ (Pipeline.UD sig nD τ) ℕ

variable (d : Dev nD) (X Wb : ℕ → ℕ → Elt F .fp8e4m3)

/-- The block of activations step `k` of tile `t` stages, -/
def xv (t k : ℕ) : FVec F S256x256 .bf16 :=
  extf .bf16 (fun j => X (f0 t + (j (0 : Fin 2)).val) (256 * k + (j (1 : Fin 2)).val) : Vec F S256x256 .fp8e4m3) bitsLt_fp8e4m3_bf16
/-- and the block of weights at row `row`. -/
def wv (row k : ℕ) : FVec F S32x256 .bf16 :=
  extf .bf16 (fun j => Wb (row + (j (0 : Fin 2)).val) (256 * k + (j (1 : Fin 2)).val) : Vec F S32x256 .fp8e4m3) bitsLt_fp8e4m3_bf16

/-- Nothing staged. -/
def NoReg (s : Mxu F) : Prop := ∀ q r, s.reg q r = none

/-- Unit `q` holds the block of step `k` and has done its pieces before `c`. -/
def Mid (t k : ℕ) (q : Fin 2) (c : ℕ) (s : Mxu F) : Prop :=
  MxI t s (gIn (xv X t) (wv Wb) k q c) ∧ NoReg s ∧ s.gmr q = some ⟨.bf16, true, xv X t k⟩

variable {defs : Defs nD τ sig (Elt F) Λ₀} {α : Type} {Q : α → sProp (MT nD τ sig Unit (Elt F) ℕ (Pipeline.UD sig nD τ) ℕ)} {d X Wb}
variable {t k : ℕ} {hk : k < 24} {q : Fin 2} {s : Mxu F} {κ : Mxu F → Pg F α} {PX PW : ℕ → ℕ → Prop}

theorem wp_accN {c row : ℕ} {hr : row + 32 ≤ 1056} (hc : c < 32) (H : Mid X Wb t k q c s)
    (hg : gAt (xv X t) (wv Wb) (k + 1) q c = ac (gAt (xv X t) (wv Wb) k q c) (pass (xv X t k) (wv Wb row k)))
    (hP : ∀ i j, i < 32 → j < 256 → PW (row + i) (256 * k + j)) :
    O2 d bW PW Wb ⊢ iprop((∀ s', iprop(⌜Mid X Wb t k q (c + 1) s'⌝ ∗ O2 d bW PW Wb) -∗ WP defs d (κ s') Q)
      -∗ WP defs d (accN t k c row hk hr q s κ) Q) := by
  unfold accN
  iintro Hw Hk
  iapply (wp_ld d hP) $$ Hw
  iintro Hw
  have key : WP defs d (κ (s.accBy q ⟨.bf16, true, xv X t k⟩ (adr t c) (wv Wb row k) (adr_fits t c))) Q
      ⊢ WP defs d ((s.accLhsLoaded q (adr t c) (wv Wb row k) (adr_fits t c)).bind κ) Q :=
    Mxu.wp_accLhsLoaded (defs := defs) (𝒱 := Variants.none) (c := (d : Thread nD τ)) (bd := none) (E := Set.univ) (wv Wb row k) (adr_fits t c) H.2.2
  iapply key
  iapply Hk $$ %_ [Hw]
  isplitr
  · ipureintro
    refine ⟨?_, H.2.1, H.2.2⟩
    have := H.1.acc (q := q) hc ⟨.bf16, true, xv X t k⟩ (wv Wb row k)
    rw [gIn_self] at this
    rw [← gIn_succ, hg]
    exact this
  · iexact Hw

theorem wp_unitStep (H : MxI t s (gIn (xv X t) (wv Wb) k q 0) ∧ NoReg s)
    (hP : ∀ x y, x < 1056 → 256 * k ≤ y → y < 256 * k + 256 → PW x y) :
    O2 d bW PW Wb
      ⊢ iprop((∀ s', iprop(⌜MxI t s' (gIn (xv X t) (wv Wb) k q 17) ∧ NoReg s'⌝ ∗ O2 d bW PW Wb) -∗ WP defs d (κ s') Q)
      -∗ WP defs d (unitStep t k hk q (xv X t k) s κ) Q) := by
  unfold unitStep
  iintro Hw Hk
  have key : ∀ κ' : Mxu F → Pg F α, WP defs d (κ' (s.pushed q ⟨k % 2, Nat.mod_lt _ (by decide)⟩ true (xv X t k))) Q
      ⊢ WP defs d ((s.pushRhs q ⟨k % 2, Nat.mod_lt _ (by decide)⟩ true (xv X t k)).bind κ') Q := fun κ' =>
    Mxu.wp_pushRhs (defs := defs) (𝒱 := Variants.none) (c := (d : Thread nD τ)) (bd := none) (E := Set.univ) (xv X t k)
      (Mxu.pushOk_of_none _ _ _ _ (H.2 _ _))
  iapply (key _)
  unfold acc0
  iapply (wp_ld d (fun i j hi hj => hP _ _ (by have := q.isLt; omega) (by omega) (by omega))) $$ Hw
  iintro Hw
  have hst : (s.pushed q ⟨k % 2, Nat.mod_lt _ (by decide)⟩ true (xv X t k)).staged q ⟨k % 2, Nat.mod_lt _ (by decide)⟩
      = ⟨.bf16, true, xv X t k⟩ := by
    unfold Mxu.staged
    rw [Mxu.reg_pushed_of_none _ _ _ _ _ (H.2 _ _)]; rfl
  have H1 : Mid X Wb t k q 1 ((s.pushed q ⟨k % 2, Nat.mod_lt _ (by decide)⟩ true (xv X t k)).accLhs q ⟨k % 2, Nat.mod_lt _ (by decide)⟩
      (adr t 0) (wv Wb (512 * q.val) k) (adr_fits t 0)) := by
    refine ⟨?_, fun q' r' => ?_, ?_⟩
    · have := (H.1.push (q := q) ⟨k % 2, Nat.mod_lt _ (by decide)⟩ true (xv X t k)).acc (q := q) (c := 0) (by decide)
        ⟨.bf16, true, xv X t k⟩ (wv Wb (512 * q.val) k)
      rw [gIn_self] at this
      rw [← gIn_succ, gAt_low _ _ _ _ (by decide)]
      have h0 : MxI t ((s.pushed q ⟨k % 2, Nat.mod_lt _ (by decide)⟩ true (xv X t k)).accBy q
          ((s.pushed q ⟨k % 2, Nat.mod_lt _ (by decide)⟩ true (xv X t k)).staged q ⟨k % 2, Nat.mod_lt _ (by decide)⟩)
          (adr t 0) (wv Wb (512 * q.val) k) (adr_fits t 0))
          (upd (gIn (xv X t) (wv Wb) k q 0) q 0 (ac (gAt (xv X t) (wv Wb) k q 0) (pass (xv X t k) (wv Wb (512 * q.val) k)))) := by
        rw [hst]; exact this
      exact h0
    · by_cases hqr : q' = q ∧ r' = ⟨k % 2, Nat.mod_lt _ (by decide)⟩
      · obtain ⟨rfl, rfl⟩ := hqr
        exact Mxu.reg_accLhs _ _ _ _ _ _
      · rw [Mxu.reg_accLhs_ne _ _ _ _ _ _ _ _ hqr, Mxu.reg_pushed_ne _ _ _ _ _ _ _ hqr]
        exact H.2 _ _
    · rw [Mxu.gmr_accLhs, hst]
  iapply (wp_forK d (fun c s => iprop(⌜Mid X Wb t k q c s⌝ ∗ ⌜1 ≤ c⌝ ∗ O2 d bW PW Wb)) (fun c hc s κ => by
    iintro ⟨%Hs, %h1, Hw⟩ Hk
    iapply (wp_accN (by omega) Hs (gAt_low _ _ _ _ hc) (fun i j hi hj => hP _ _ (by have := q.isLt; omega) (by omega) (by omega))) $$ Hw
    iintro %s' ⟨%Hs', Hw⟩
    iapply Hk $$ %_ [Hw]
    isplitr; · ipureintro; exact Hs'
    isplitr; · ipureintro; omega
    iexact Hw) 15 1 rfl _ _) $$ [Hw]
  · isplitr; · ipureintro; exact H1
    isplitr; · ipureintro; exact le_refl 1
    iexact Hw
  iintro %s' ⟨%Hs, -, Hw⟩
  by_cases he : k % 2 = q.val
  · have hb : Nat.beq (k % 2) q.val = true := Nat.beq_eq ▸ he
    rw [hb, cond_true]
    iapply (wp_accN (by decide) Hs (gAt_tail _ _ _ _ he) (fun i j hi hj => hP _ _ (by omega) (by omega) (by omega))) $$ Hw
    iintro %s'' ⟨%Hs', Hw⟩
    iapply Hk $$ %_ [Hw]
    isplitr; · ipureintro; exact ⟨Hs'.1, Hs'.2.1⟩
    iexact Hw
  · have hb : Nat.beq (k % 2) q.val = false := by
      rw [← Bool.not_eq_true, Nat.beq_eq]; exact he
    rw [hb, cond_false]
    iapply Hk $$ %_ [Hw]
    isplitr
    · ipureintro
      refine ⟨?_, Hs.2.1⟩
      rw [← gIn_skip _ _ _ _ _ (gAt_tail_ne _ _ _ _ he)]
      exact Hs.1
    iexact Hw

theorem wp_kStep {ht : t < 8} (H : MxI t s (gAt (xv X t) (wv Wb) k) ∧ NoReg s)
    (hX : ∀ i j, i < 256 → j < 256 → PX (f0 t + i) (256 * k + j))
    (hW : ∀ x y, x < 1056 → 256 * k ≤ y → y < 256 * k + 256 → PW x y) :
    iprop(O2 d bX PX X ∗ O2 d bW PW Wb)
      ⊢ iprop((∀ s', iprop(⌜MxI t s' (gAt (xv X t) (wv Wb) (k + 1)) ∧ NoReg s'⌝ ∗ O2 d bX PX X ∗ O2 d bW PW Wb) -∗ WP defs d (κ s') Q)
      -∗ WP defs d (kStep t k ht hk s κ) Q) := by
  unfold kStep
  iintro ⟨Hx, Hw⟩ Hk
  iapply (wp_ld d hX) $$ Hx
  iintro Hx
  iapply (wp_unitStep (k := k) (q := 0) (s := s) (by rw [gIn_first]; exact H) hW) $$ Hw
  iintro %s' ⟨%H', Hw⟩
  iapply (wp_unitStep (k := k) (q := 1) (s := s') (by rw [← gIn_next]; exact H') hW) $$ Hw
  iintro %s'' ⟨%H'', Hw⟩
  iapply Hk $$ %_ [Hx Hw]
  rw [gIn_last] at H''
  isplitr; · ipureintro; exact H''
  isplitl [Hx] <;> iassumption

end Cert.KernelIdeal
-- ==== Proof.Kn.lean ====
/- Buffers of which some rows are known; the columns of the prologue and the drain. -/
module

public import proofs.«01_k».proof.Proof.Step
public import Idealize.ShloMosaic.Lib.ValueLayout
public import Idealize.ShloMosaic.Lib.Pointwise.Index

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx
open Shapes1.Facts₀ Shapes2.Facts₀ K0.Facts₀ Facts₀ Facts

variable {F : FTy → Type} [FloatOps F] [Facts]

local notation "𝕄" => MT nD τ sig Unit (Elt F) ℕ (Pipeline.UD sig nD τ) ℕ

variable (d : Dev nD)

/-- A buffer of 128 lanes whose rows in `K` read `H`. -/
def Kn {R : ℕ} (m : Memref sig .tc .vmem ⟨2, ![R, 128]⟩ .f32) (K : ℕ → Prop) (H : ℕ → ℕ → Elt F .f32) : sProp 𝕄 :=
  iprop(∃ A : ℕ → ℕ → Elt F .f32, ⌜∀ x y, y < 128 → K x → A x y = H x y⌝ ∗ O2 d m T2 A)

/-- Slot `n` of the spectrum's staging buffer, whose rows in `K` read `H`. -/
def KO (n : ℕ) (K : ℕ → Prop) (H : ℕ → ℕ → Elt F .bf16) : sProp 𝕄 :=
  iprop(∃ A : ℕ → ℕ → ℕ → Elt F .bf16, ⌜∀ y z, z < 128 → K y → A n y z = H y z⌝ ∗ O3 d bO (fun s _ _ => s = n) A)

variable {d}
variable {defs : Defs nD τ sig (Elt F) Λ₀} {α : Type} {Q : α → sProp (MT nD τ sig Unit (Elt F) ℕ (Pipeline.UD sig nD τ) ℕ)}

section
variable {R : ℕ} {m : Memref sig .tc .vmem ⟨2, ![R, 128]⟩ .f32} {K K' : ℕ → Prop} {H H' : ℕ → ℕ → Elt F .f32}

theorem Kn_of {A : ℕ → ℕ → Elt F .f32} : O2 d m T2 A ⊢ Kn d m (fun _ => False) H := by
  unfold Kn
  iintro Hm
  iexists A
  isplitr
  · ipureintro; exact fun _ _ _ h => h.elim
  · iexact Hm

theorem Kn_forget : Kn d m K H ⊢ Kn d m (fun _ => False) H' := by
  unfold Kn
  iintro ⟨%A, %hA, Hm⟩
  iexists A
  isplitr
  · ipureintro; exact fun _ _ _ h => h.elim
  · iexact Hm

theorem Kn_mono (h : ∀ x, K' x → K x) : Kn d m K H ⊢ Kn d m K' H := by
  unfold Kn
  iintro ⟨%A, %hA, Hm⟩
  iexists A
  isplitr
  · ipureintro; exact fun x y hy hx => hA x y hy (h x hx)
  · iexact Hm

theorem wp_ldK {r a : ℕ} {hr : r + a ≤ R} {hc : 0 + 128 ≤ 128} {hp : 0 < (⟨2, ![a, 128]⟩ : Shape).numel}
    {κ : Vec F ⟨2, ![a, 128]⟩ .f32 → Pg F α} (hK : ∀ i, i < a → K (r + i)) :
    Kn d m K H ⊢ iprop((Kn d m K H -∗ WP defs d (κ fun j => H (r + (j (0 : Fin 2)).val) (j (1 : Fin 2)).val) Q)
      -∗ WP defs d (ld m r 0 a 128 hr hc hp κ) Q) := by
  unfold Kn
  iintro ⟨%A, %hA, Hm⟩ Hk
  iapply (wp_ld d (P := T2) (A := A) fun _ _ _ _ => trivial) $$ Hm
  iintro Hm
  have hv : (fun j : (⟨2, ![a, 128]⟩ : Shape).Idx => A (r + (j (0 : Fin 2)).val) (0 + (j (1 : Fin 2)).val))
      = fun j => H (r + (j (0 : Fin 2)).val) (j (1 : Fin 2)).val := by
    funext j
    rw [Nat.zero_add]
    exact hA _ _ (j (1 : Fin 2)).isLt (hK _ (j (0 : Fin 2)).isLt)
  rw [hv]
  iapply Hk
  iexists A
  isplitr
  · ipureintro; exact hA
  · iexact Hm

theorem wp_putK {r a : ℕ} {hr : r + a ≤ R} {hp : 0 < (⟨2, ![a, 128]⟩ : Shape).numel}
    {hs : (⟨2, ![a, 128]⟩ : Shape).ShapeCasts ⟨2, ![a, 128]⟩} {v : FVec F ⟨2, ![a, 128]⟩ .f32} {κ : Pg F α}
    (hv : ∀ j : (⟨2, ![a, 128]⟩ : Shape).Idx, v j = H (r + (j (0 : Fin 2)).val) (j (1 : Fin 2)).val)
    (hK : ∀ x, K' x → K x ∨ (r ≤ x ∧ x < r + a)) :
    Kn d m K H ⊢ iprop((Kn d m K' H -∗ WP defs d κ Q) -∗ WP defs d (put m r a hr hp hs v κ) Q) := by
  unfold Kn
  iintro ⟨%A, %hA, Hm⟩ Hk
  classical
  iapply (wp_put d (A := A) (fun x y => if r ≤ x ∧ x < r + a then H x y else A x y) (fun j => by
      have : (j (0 : Fin 2)).val < a := (j (0 : Fin 2)).isLt
      rw [if_pos (by omega)]; exact (hv j).symm)
    (fun x y _ _ hn => if_neg hn)) $$ Hm
  iintro Hm
  iapply Hk
  iexists _
  isplitr
  swap
  · iexact Hm
  · ipureintro
    intro x y hy hx
    by_cases h : r ≤ x ∧ x < r + a
    · exact if_pos h
    · exact (if_neg h).trans (hA x y hy ((hK x hx).resolve_right h))
end

section
variable {n : ℕ} {K K' : ℕ → Prop} {H H' : ℕ → ℕ → Elt F .bf16}

theorem KO_of {A : ℕ → ℕ → ℕ → Elt F .bf16} : O3 d bO (fun s _ _ => s = n) A ⊢ KO d n (fun _ => False) H := by
  unfold KO
  iintro Hm
  iexists A
  isplitr
  · ipureintro; exact fun _ _ _ h => h.elim
  · iexact Hm

theorem KO_mono (h : ∀ x, K' x → K x) : KO d n K H ⊢ KO d n K' H := by
  unfold KO
  iintro ⟨%A, %hA, Hm⟩
  iexists A
  isplitr
  · ipureintro; exact fun x y hy hx => hA x y hy (h x hx)
  · iexact Hm

theorem wp_putKO {r a : ℕ} {hn : n < 4} {hr : r + a ≤ 1026} {h2r : 2 ∣ r} {h2a : 2 ∣ a}
    {hp : 0 < (⟨3, ![1, a, 128]⟩ : Shape).numel} {v : FVec F ⟨3, ![1, a, 128]⟩ .bf16} {κ : Pg F α}
    (hv : ∀ j : (⟨3, ![1, a, 128]⟩ : Shape).Idx, v j = H (r + (j (1 : Fin 3)).val) (j (2 : Fin 3)).val)
    (hK : ∀ x, K' x → K x ∨ (r ≤ x ∧ x < r + a)) :
    KO d n K H ⊢ iprop((KO d n K' H -∗ WP defs d κ Q) -∗ WP defs d (putO n r a hn hr h2r h2a hp v κ) Q) := by
  unfold KO
  iintro ⟨%A, %hA, Hm⟩ Hk
  classical
  iapply (wp_putO d (A := A) (fun s y z => if r ≤ y ∧ y < r + a then H y z else A s y z) (fun j => by
      have : (j (1 : Fin 3)).val < a := (j (1 : Fin 3)).isLt
      rw [if_pos (by omega)]; exact (hv j).symm)
    (fun y z _ _ hn => if_neg hn)) $$ Hm
  iintro Hm
  iapply Hk
  iexists _
  isplitr
  swap
  · iexact Hm
  · ipureintro
    intro y z hz hy
    by_cases h : r ≤ y ∧ y < r + a
    · exact if_pos h
    · exact (if_neg h).trans (hA y z hz ((hK y hy).resolve_right h))
end

/-! ## The columns -/

theorem shapeCast_row {β : Type} {n : ℕ} (v : (⟨1, ![n]⟩ : Shape).Idx → β) (h) (x : Fin 1) (y : Fin n) :
    shapeCast (⟨2, ![1, n]⟩ : Shape) v h (ix2 x y) = v (ix1 y) := by
  unfold shapeCast
  refine congrArg v (Shape.reshapeEquiv_eq_of_rowMajor _ ?_)
  rw [Shape.rowMajor_val_one, Shape.rowMajor_val_two]
  show y.val = x.val * n + y.val
  have : x.val = 0 := by omega
  rw [this, Nat.zero_mul, Nat.zero_add]

/-- The column buffer of the vector `w`: one entry a row, then zeros. -/
def colOf (w : ℕ → Elt F .f32) : ℕ → ℕ → Elt F .f32 := fun r _ => if r < 1026 then w r else (Scalar.ofBits .f32 0x00000000#32 : F .f32)

theorem shapeCast_slab {β : Type} {a b : ℕ} (v : (⟨2, ![a, b]⟩ : Shape).Idx → β) (h) (j : (⟨3, ![1, a, b]⟩ : Shape).Idx) :
    shapeCast (⟨3, ![1, a, b]⟩ : Shape) v h j = v (ix2 (j (1 : Fin 3) : Fin a) (j (2 : Fin 3) : Fin b)) := by
  unfold shapeCast
  refine congrArg v (Shape.reshapeEquiv_eq_of_rowMajor _ ?_)
  rw [Shape.rowMajor_val_two, Shape.rowMajor_val_three]
  show (j (1 : Fin 3)).val * b + (j (2 : Fin 3)).val = ((j (0 : Fin 3)).val * a + (j (1 : Fin 3)).val) * b + (j (2 : Fin 3)).val
  have : (j (0 : Fin 3)).val < 1 := (j (0 : Fin 3)).isLt
  have h0 : (j (0 : Fin 3)).val = 0 := by omega
  rw [h0, Nat.zero_mul, Nat.zero_add]

section
variable {src : Memref sig .tc .vmem S1026 .f32} {dst : Memref sig .tc .vmem S1056x128 .f32} {w : ℕ → Elt F .f32}
variable {K : ℕ → Prop} {κ : Pg F α}

theorem wp_colBlock {c : ℕ} {hc : c < 8} :
    iprop(O1 d src w ∗ Kn d dst (fun x => x < 128 * c) (colOf w))
      ⊢ iprop((iprop(O1 d src w ∗ Kn d dst (fun x => x < 128 * (c + 1)) (colOf w)) -∗ WP defs d κ Q)
        -∗ WP defs d (colBlock src dst c hc κ) Q) := by
  unfold colBlock
  iintro ⟨H1, H2⟩ Hk
  iapply (wp_ld1 d) $$ H1
  iintro H1
  iapply (wp_putK (K' := fun x => x < 128 * (c + 1)) (fun j => ?_) (fun x hx => by omega)) $$ H2
  · rw [shapeCast_self]
    have hj : (j (0 : Fin 2)).val < 128 := (j (0 : Fin 2)).isLt
    unfold colOf
    rw [if_pos (by omega)]
    have e : ∀ u : S1x128.Idx → Elt F .f32, transpose S128x128 [1, 0] (broadcastTo S128x128 u broadcasts_S1x128_S128x128)
        transposes_S128x128_p1_0_S128x128 j = u (ix2 (0 : Fin 1) (⟨(j (0 : Fin 2)).val, hj⟩ : Fin 128)) := fun u =>
      congrArg u (by funext a; match a with
                     | ⟨0, _⟩ => rfl
                     | ⟨1, _⟩ => rfl)
    rw [e, shapeCast_row]
    rfl
  iintro H2
  iapply Hk
  isplitl [H1] <;> iassumption

theorem wp_colRow {r : ℕ} {hr : r < 1026} :
    iprop(O1 d src w ∗ Kn d dst (fun x => x < r) (colOf w))
      ⊢ iprop((iprop(O1 d src w ∗ Kn d dst (fun x => x < r + 1) (colOf w)) -∗ WP defs d κ Q)
        -∗ WP defs d (colRow src dst r hr κ) Q) := by
  unfold colRow
  iintro ⟨H1, H2⟩ Hk
  iapply (wp_ld1 d) $$ H1
  iintro H1
  iapply (wp_putK (K' := fun x => x < r + 1) (fun j => ?_) (fun x hx => by omega)) $$ H2
  · rw [shapeCast_self]
    have hj : (j (0 : Fin 2)).val < 1 := (j (0 : Fin 2)).isLt
    unfold colOf
    rw [if_pos (by omega)]
    have e : ∀ u : S1x1.Idx → Elt F .f32, broadcastTo S1x128 u broadcasts_S1x1_S1x128 j = u (ix2 (0 : Fin 1) (⟨0, by decide⟩ : Fin 1)) :=
      fun u => congrArg u (by funext a; match a with
                              | ⟨0, _⟩ => rfl
                              | ⟨1, _⟩ => rfl)
    rw [e, shapeCast_row]
    show w (r + 0) = w (r + (j (0 : Fin 2)).val)
    congr 2
    omega
  iintro H2
  iapply Hk
  isplitl [H1] <;> iassumption

theorem wp_column {H' : ℕ → ℕ → Elt F .f32} :
    iprop(O1 d src w ∗ Kn d dst (fun _ => False) H')
      ⊢ iprop((iprop(O1 d src w ∗ Kn d dst (fun x => x < 1040) (colOf w)) -∗ WP defs d κ Q)
        -∗ WP defs d (column src dst κ) Q) := by
  unfold column
  iintro ⟨H1, H2⟩ Hk
  ihave H2 := (Kn_forget (H' := colOf w)) $$ H2
  ihave H2 := (Kn_mono (K' := fun x => x < 128 * 0) (fun x hx => by omega)) $$ H2
  iapply (wp_forU d (fun c => iprop(O1 d src w ∗ Kn d dst (fun x => x < 128 * c) (colOf w))) (fun c hc κ => wp_colBlock) 8 0 rfl _) $$ [H1 H2]
  · isplitl [H1] <;> iassumption
  iintro ⟨H1, H2⟩
  iapply (wp_colRow (r := 1024)) $$ [H1 H2]
  · isplitl [H1] <;> iassumption
  iintro ⟨H1, H2⟩
  iapply (wp_colRow (r := 1025)) $$ [H1 H2]
  · isplitl [H1] <;> iassumption
  iintro ⟨H1, H2⟩
  iapply (wp_putK (K' := fun x => x < 1040) (fun j => ?_) (fun x hx => by omega)) $$ H2
  · unfold colOf
    rw [if_neg (by omega)]
    rfl
  iintro H2
  iapply Hk
  isplitl [H1] <;> iassumption
end

/-! ## The drain -/

/-- The projection of lane group `l`: rows of pieces, lanes of a half. -/
def hOf (p : ℕ → Piece F) (l : Fin 2) : ℕ → ℕ → Elt F .f32 := fun row lane =>
  p (row / 32) (Mxu.ix ⟨row % 32, Nat.mod_lt _ (by decide)⟩ ⟨(128 * l.val + lane) % 256, Nat.mod_lt _ (by decide)⟩)

/-- The 33 pieces a tile's projection is of. -/
def pieceOf (g : Fin 2 → ℕ → Option (Piece F)) (p : ℕ) : Piece F :=
  if p < 32 then fin (g ⟨p / 16 % 2, Nat.mod_lt _ (by decide)⟩ (p % 16)) else addf (fin (g 0 16)) (fin (g 1 16))

theorem wp_putHs {row : ℕ} {hr : row + 32 ≤ 1056} {v : FVec F S32x256 .f32} {κ : Pg F α} {p : ℕ → Piece F} {K K' : ℕ → Prop}
    (h32 : row % 32 = 0) (hv : v = p (row / 32)) (hK : ∀ x, K' x → K x ∨ (row ≤ x ∧ x < row + 32)) :
    iprop(Kn d (bH 0) K (hOf p 0) ∗ Kn d (bH 1) K (hOf p 1))
      ⊢ iprop((iprop(Kn d (bH 0) K' (hOf p 0) ∗ Kn d (bH 1) K' (hOf p 1)) -∗ WP defs d κ Q) -∗ WP defs d (putHs row hr v κ) Q) := by
  unfold putHs putH
  iintro ⟨H1, H2⟩ Hk
  have hh : ∀ i : ℕ, i < 32 → (row + i) / 32 = row / 32 ∧ (row + i) % 32 = i := fun i hi => by omega
  subst hv
  iapply (wp_putK (K' := K') (fun j => ?_) hK) $$ H1
  · have h0 : (j (0 : Fin 2)).val < 32 := (j (0 : Fin 2)).isLt
    have h1 : (j (1 : Fin 2)).val < 128 := (j (1 : Fin 2)).isLt
    unfold hOf
    show p (row / 32) _ = p ((row + (j (0 : Fin 2)).val) / 32) _
    rw [(hh _ h0).1]
    congr 1
    funext a
    match a with
    | ⟨0, _⟩ => exact Fin.ext (show 0 + (j (0 : Fin 2)).val = (row + (j (0 : Fin 2)).val) % 32 by omega)
    | ⟨1, _⟩ => exact Fin.ext (show 0 + (j (1 : Fin 2)).val = (128 * 0 + (j (1 : Fin 2)).val) % 256 by omega)
  iintro H1
  iapply (wp_putK (K' := K') (fun j => ?_) hK) $$ H2
  · have h0 : (j (0 : Fin 2)).val < 32 := (j (0 : Fin 2)).isLt
    have h1 : (j (1 : Fin 2)).val < 128 := (j (1 : Fin 2)).isLt
    unfold hOf
    show p (row / 32) _ = p ((row + (j (0 : Fin 2)).val) / 32) _
    rw [(hh _ h0).1]
    congr 1
    funext a
    match a with
    | ⟨0, _⟩ => exact Fin.ext (show 0 + (j (0 : Fin 2)).val = (row + (j (0 : Fin 2)).val) % 32 by omega)
    | ⟨1, _⟩ => exact Fin.ext (show 128 + (j (1 : Fin 2)).val = (128 * 1 + (j (1 : Fin 2)).val) % 256 by omega)
  iintro H2
  iapply Hk
  isplitl [H1] <;> iassumption

/-- The pieces before `c` of both units, and of unit 0 before `c'`, read out and emptied. -/
def gOut (g : Fin 2 → ℕ → Option (Piece F)) (c c' : ℕ) : Fin 2 → ℕ → Option (Piece F) := fun q x =>
  if x < (if q = 0 then c' else c) then none else g q x

theorem gOut_pop {g : Fin 2 → ℕ → Option (Piece F)} {c : ℕ} :
    upd (gOut g c c) 0 c none = gOut g c (c + 1) ∧ upd (gOut g c (c + 1)) 1 c none = gOut g (c + 1) (c + 1) := by
  constructor
  · funext q x
    unfold upd gOut
    by_cases hq : q = 0
    · subst hq
      by_cases hx : x = c
      · subst hx; simp
      · have : (x < c + 1) = (x < c) := propext (by omega)
        simp [hx, this]
    · simp [hq]
  · funext q x
    unfold upd gOut
    by_cases hq : q = 0
    · subst hq; simp
    · have : q = 1 := by omega
      subst this
      by_cases hx : x = c
      · subst hx; simp
      · have : (x < c + 1) = (x < c) := propext (by omega)
        simp [hx, this]

theorem gOut_a {g : Fin 2 → ℕ → Option (Piece F)} {c : ℕ} : gOut g c c 0 c = g 0 c := by
  unfold gOut; rw [if_pos rfl, if_neg (Nat.lt_irrefl c)]
theorem gOut_b {g : Fin 2 → ℕ → Option (Piece F)} {c : ℕ} : gOut g c (c + 1) 1 c = g 1 c := by
  unfold gOut; rw [if_neg (show ¬((1 : Fin 2) = 0) by decide), if_neg (Nat.lt_irrefl c)]

theorem wp_drain {t : ℕ} {s : Mxu F} {κ : Mxu F → Pg F α} {g : Fin 2 → ℕ → Option (Piece F)} (H : MxI t s g) (hr : NoReg s)
    (hg : ∀ q c, 17 ≤ c → g q c = none) {H0 H1 : ℕ → ℕ → Elt F .f32} :
    iprop(Kn d (bH 0) (fun _ => False) H0 ∗ Kn d (bH 1) (fun _ => False) H1)
      ⊢ iprop((∀ s', iprop(⌜Empty s'⌝ ∗ Kn d (bH 0) (fun x => x < 1056) (hOf (pieceOf g) 0)
          ∗ Kn d (bH 1) (fun x => x < 1056) (hOf (pieceOf g) 1)) -∗ WP defs d (κ s') Q) -∗ WP defs d (drain t s κ) Q) := by
  unfold drain
  iintro ⟨H1, H2⟩ Hk
  ihave H1 := (Kn_forget (H' := hOf (pieceOf g) 0)) $$ H1
  ihave H1 := (Kn_mono (K' := fun x => x < 1024 ∧ x / 32 % 16 < 0) (fun x hx => by omega)) $$ H1
  ihave H2 := (Kn_forget (H' := hOf (pieceOf g) 1)) $$ H2
  ihave H2 := (Kn_mono (K' := fun x => x < 1024 ∧ x / 32 % 16 < 0) (fun x hx => by omega)) $$ H2
  iapply (wp_forK d (fun c s => iprop(⌜MxI t s (gOut g c c) ∧ NoReg s⌝ ∗ Kn d (bH 0) (fun x => x < 1024 ∧ x / 32 % 16 < c) (hOf (pieceOf g) 0)
      ∗ Kn d (bH 1) (fun x => x < 1024 ∧ x / 32 % 16 < c) (hOf (pieceOf g) 1))) (fun c hc s κ => by
    iintro ⟨%Hs, H1, H2⟩ Hk
    unfold drainPiece
    iapply (wp_putHs (p := pieceOf g) (K := fun x => x < 1024 ∧ x / 32 % 16 < c) (K' := fun x => (x < 1024 ∧ x / 32 % 16 < c) ∨ (32 * c ≤ x ∧ x < 32 * c + 32)) (by show (512 * 0 + _) % 32 = 0; omega) (by
        refine Eq.trans (show s.read 0 (adr t c) (adr_fits t c) = fin _ from (Hs.1 0 c (by omega)).read_eq) ?_
        show _ = pieceOf g ((512 * 0 + 32 * c) / 32)
        rw [show (512 * 0 + 32 * c) / 32 = c by omega]
        rw [gOut_a]
        unfold pieceOf
        rw [if_pos (by omega), show c % 16 = c by omega]
        congr 2
        exact Fin.ext (show 0 = c / 16 % 2 by omega))
      (fun x hx => by show _ ∨ (512 * 0 + _ ≤ _ ∧ _); rcases hx with hx | hx
                      · exact .inl hx
                      · exact .inr (by show _ ∧ _ < 512 * 0 + _ + _; omega))) $$ [H1 H2]
    · isplitl [H1] <;> iassumption
    iintro ⟨H1, H2⟩
    have hs1 := Hs.1.pop (q := 0) (c := c) (by omega)
    rw [gOut_pop.1] at hs1
    iapply (wp_putHs (p := pieceOf g) (K := fun x => (x < 1024 ∧ x / 32 % 16 < c) ∨ (32 * c ≤ x ∧ x < 32 * c + 32)) (K' := fun x => x < 1024 ∧ x / 32 % 16 < c + 1) (by show (512 * 1 + _) % 32 = 0; omega) (by
        refine Eq.trans (show (s.pop 0 (adr t c) 32 (adr_fits t c)).read 1 (adr t c) (adr_fits t c) = fin _ from (hs1 1 c (by omega)).read_eq) ?_
        show _ = pieceOf g ((512 * 1 + 32 * c) / 32)
        rw [show (512 * 1 + 32 * c) / 32 = 16 + c by omega]
        rw [gOut_b]
        unfold pieceOf
        rw [if_pos (by omega), show (16 + c) % 16 = c by omega]
        congr 2
        exact Fin.ext (show 1 = (16 + c) / 16 % 2 by omega))
      (fun x hx => by show _ ∨ (512 * 1 + _ ≤ _ ∧ _ < 512 * 1 + _ + _); omega)) $$ [H1 H2]
    · isplitl [H1] <;> iassumption
    iintro ⟨H1, H2⟩
    have hs2 := hs1.pop (q := 1) (c := c) (by omega)
    rw [gOut_pop.2] at hs2
    iapply Hk $$ %_ [H1 H2]
    isplitr
    · ipureintro; exact ⟨hs2, Hs.2⟩
    isplitl [H1] <;> iassumption) 16 0 rfl _ _) $$ [H1 H2]
  · isplitr
    · ipureintro
      refine ⟨?_, hr⟩
      have : gOut g 0 0 = g := by funext q c; unfold gOut; simp
      rw [this]; exact H
    isplitl [H1] <;> iassumption
  iintro %s' ⟨%Hs, H1, H2⟩
  have hs1 := Hs.1.pop (q := 0) (c := 16) (by omega)
  rw [gOut_pop.1] at hs1
  have hs2 := hs1.pop (q := 1) (c := 16) (by omega)
  rw [gOut_pop.2] at hs2
  have hnone : gOut g (16 + 1) (16 + 1) = fun _ _ => none := by
    funext q x
    unfold gOut
    by_cases hx : x < 17
    · simp [hx]
    · simp [hx, hg q x (by omega)]
  rw [hnone] at hs2
  iapply (wp_putHs (p := pieceOf g) (K := fun x => x < 1024 ∧ x / 32 % 16 < 16) (K' := fun x => x < 1056) (by decide) (by
      rw [show s'.read 0 (adr t 16) (adr_fits t 16) = fin _ from (Hs.1 0 16 (by omega)).read_eq,
        show (s'.pop 0 (adr t 16) 32 (adr_fits t 16)).read 1 (adr t 16) (adr_fits t 16) = fin _ from (hs1 1 16 (by omega)).read_eq]
      rw [gOut_a, gOut_b]
      unfold pieceOf
      rw [if_neg (by decide)])
    (fun x hx => by omega)) $$ [H1 H2]
  · isplitl [H1] <;> iassumption
  iintro ⟨H1, H2⟩
  iapply Hk $$ %_ [H1 H2]
  isplitr
  · ipureintro
    exact hs2.empty Hs.2
  isplitl [H1] <;> iassumption

end Cert.KernelIdeal
-- ==== Proof.Epi.lean ====
/- The spectrum of one lane group of a tile, block by block. -/
module

public import proofs.«01_k».proof.Proof.Kn

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx
open Shapes1.Facts₀ Shapes2.Facts₀ K0.Facts₀ Facts₀ Facts

variable {F : FTy → Type} [FloatOps F] [Facts]

local notation "𝕄" => MT nD τ sig Unit (Elt F) ℕ (Pipeline.UD sig nD τ) ℕ

/-! ## The values -/

section Values
variable (h cw cb : ℕ → ℕ → Elt F .f32) (xs : ℕ → Elt F .f32)

/-- Row `n` of the cosine part, -/
def cOf (n y : ℕ) : Elt F .f32 :=
  spC (s := S_) (fun _ => h n y) (fun _ => h (513 + n) y) (fun _ => xs y) (fun _ => cw n y) (fun _ => cb n y) (fun _ => cw (513 + n) y)
    (fun _ => cb (513 + n) y) (fun i => i.elim0)
/-- and of the sine part. -/
def sOf (n y : ℕ) : Elt F .f32 :=
  spS (s := S_) (fun _ => h n y) (fun _ => h (513 + n) y) (fun _ => xs y) (fun _ => cw n y) (fun _ => cb n y) (fun _ => cw (513 + n) y)
    (fun _ => cb (513 + n) y) (fun i => i.elim0)

/-- The rows one down: the last cosine row, then the sine rows. -/
def sbOf (x y : ℕ) : Elt F .f32 := if x = 0 then cOf h cw cb xs 512 y else sOf h cw cb xs (x - 1) y

/-- Rounded. -/
def tr (v : Elt F .f32) : Elt F .bf16 := (truncf .bf16 (fun _ => v : FVec F S_ .f32) bitsLt_bf16_f32 : FVec F S_ .bf16) (fun i => i.elim0)

/-- The spectrum: the cosine rows, then the sine rows. -/
def soOf (x y : ℕ) : Elt F .bf16 := tr (if x < 513 then cOf h cw cb xs x y else sOf h cw cb xs (x - 513) y)

theorem soOf_low {x y : ℕ} (hx : x < 513) : soOf h cw cb xs x y = tr (cOf h cw cb xs x y) := by
  unfold soOf; rw [if_pos hx]

theorem soOf_high {r y : ℕ} : soOf h cw cb xs (512 + r) y = tr (sbOf h cw cb xs r y) := by
  unfold soOf sbOf
  by_cases hr : r = 0
  · subst hr; rw [if_pos (by decide), if_pos rfl]
  · rw [if_neg (by omega), if_neg hr, show 512 + r - 513 = r - 1 by omega]
end Values

variable (d : Dev nD) (cw cb : ℕ → ℕ → Elt F .f32) (XS : ℕ → ℕ → Elt F .f32) (h : Fin 2 → ℕ → ℕ → Elt F .f32)

/-- The buffers only read from. -/
def RO : sProp 𝕄 :=
  iprop(Kn d cW (fun x => x < 1040) cw ∗ Kn d cB (fun x => x < 1040) cb ∗ O2 d bXs T2 XS)

/-- The scales of the frames of a group. -/
def xsOf (w : ℕ) : ℕ → Elt F .f32 := fun y => XS (w / 5) (128 * (w % 5) + y)

/-- The spectrum of lane group `l` of tile `t`. -/
abbrev so (t : ℕ) (l : Fin 2) : ℕ → ℕ → Elt F .bf16 := soOf (h l) cw cb (xsOf XS (grp t l.val))
abbrev sb (t : ℕ) (l : Fin 2) : ℕ → ℕ → Elt F .f32 := sbOf (h l) cw cb (xsOf XS (grp t l.val))

def KS (g : ℕ) : ℕ → Prop := fun x => x = 0 ∨ x = 513 ∨ (1 ≤ x ∧ x < 1 + 32 * g)
def KT (g : ℕ) : ℕ → Prop := fun x => x < 32 * g ∨ (512 ≤ x ∧ x < 512 + 32 * g)

/-- A lane group of tile `t` after `g` blocks. -/
def Lane (t : ℕ) (l : Fin 2) (g : ℕ) : sProp 𝕄 :=
  iprop(Kn d (bH l) (fun x => x < 1056) (h l) ∗ Kn d (bS l) (KS g) (sb cw cb XS h t l) ∗ KO d (2 * (t % 2) + l.val) (KT g) (so cw cb XS h t l))

variable {defs : Defs nD τ sig (Elt F) Λ₀} {α : Type} {Q : α → sProp (MT nD τ sig Unit (Elt F) ℕ (Pipeline.UD sig nD τ) ℕ)}
variable {d cw cb XS h} {t : ℕ} {ht : t < 8} {l : Fin 2}

theorem wp_loads {r p a : ℕ} {hr : r + a ≤ 1056} {hp : p + a ≤ 1056} {h0 : 0 < (⟨2, ![a, 128]⟩ : Shape).numel}
    {hb : S1x128.Broadcasts ⟨2, ![a, 128]⟩} {κ : FVec F ⟨2, ![a, 128]⟩ .f32 → FVec F ⟨2, ![a, 128]⟩ .f32 → Pg F α}
    (hrp : p = 513 + r) (hr' : p + a ≤ 1040) :
    iprop(Kn d (bH l) (fun x => x < 1056) (h l) ∗ RO d cw cb XS)
      ⊢ iprop((iprop(Kn d (bH l) (fun x => x < 1056) (h l) ∗ RO d cw cb XS) -∗
          WP defs d (κ (fun j => cOf (h l) cw cb (xsOf XS (grp t l.val)) (r + (j (0 : Fin 2)).val) (j (1 : Fin 2)).val)
            (fun j => sOf (h l) cw cb (xsOf XS (grp t l.val)) (r + (j (0 : Fin 2)).val) (j (1 : Fin 2)).val)) Q)
        -∗ WP defs d (loads t ht l r p a hr hp h0 hb κ) Q) := by
  subst hrp
  unfold loads RO
  iintro ⟨H, Hw, Hb, Hx⟩ Hk
  iapply (wp_ldK fun i hi => by omega) $$ H
  iintro H
  iapply (wp_ldK fun i hi => by omega) $$ H
  iintro H
  iapply (wp_ld d (P := T2) fun _ _ _ _ => trivial) $$ Hx
  iintro Hx
  iapply (wp_ldK fun i hi => by omega) $$ Hw
  iintro Hw
  iapply (wp_ldK fun i hi => by omega) $$ Hb
  iintro Hb
  iapply (wp_ldK fun i hi => by omega) $$ Hw
  iintro Hw
  iapply (wp_ldK fun i hi => by omega) $$ Hb
  iintro Hb
  have hx : ∀ j : (⟨2, ![a, 128]⟩ : Shape).Idx,
      broadcastTo (⟨2, ![a, 128]⟩ : Shape) (fun j : S1x128.Idx => XS (grp t l.val / 5 + (j (0 : Fin 2)).val)
        (128 * (grp t l.val % 5) + (j (1 : Fin 2)).val)) hb j = xsOf XS (grp t l.val) (j (1 : Fin 2)).val := fun j => rfl
  have hc : spC (fun j : (⟨2, ![a, 128]⟩ : Shape).Idx => h l (r + (j (0 : Fin 2)).val) (j (1 : Fin 2)).val)
      (fun j => h l (513 + r + (j (0 : Fin 2)).val) (j (1 : Fin 2)).val)
      (broadcastTo (⟨2, ![a, 128]⟩ : Shape) (fun j : S1x128.Idx => XS (grp t l.val / 5 + (j (0 : Fin 2)).val)
        (128 * (grp t l.val % 5) + (j (1 : Fin 2)).val)) hb)
      (fun j => cw (r + (j (0 : Fin 2)).val) (j (1 : Fin 2)).val) (fun j => cb (r + (j (0 : Fin 2)).val) (j (1 : Fin 2)).val)
      (fun j => cw (513 + r + (j (0 : Fin 2)).val) (j (1 : Fin 2)).val) (fun j => cb (513 + r + (j (0 : Fin 2)).val) (j (1 : Fin 2)).val)
      = fun j => cOf (h l) cw cb (xsOf XS (grp t l.val)) (r + (j (0 : Fin 2)).val) (j (1 : Fin 2)).val := by
    funext j
    unfold cOf
    rw [← Nat.add_assoc]
    rfl
  have hs : spS (fun j : (⟨2, ![a, 128]⟩ : Shape).Idx => h l (r + (j (0 : Fin 2)).val) (j (1 : Fin 2)).val)
      (fun j => h l (513 + r + (j (0 : Fin 2)).val) (j (1 : Fin 2)).val)
      (broadcastTo (⟨2, ![a, 128]⟩ : Shape) (fun j : S1x128.Idx => XS (grp t l.val / 5 + (j (0 : Fin 2)).val)
        (128 * (grp t l.val % 5) + (j (1 : Fin 2)).val)) hb)
      (fun j => cw (r + (j (0 : Fin 2)).val) (j (1 : Fin 2)).val) (fun j => cb (r + (j (0 : Fin 2)).val) (j (1 : Fin 2)).val)
      (fun j => cw (513 + r + (j (0 : Fin 2)).val) (j (1 : Fin 2)).val) (fun j => cb (513 + r + (j (0 : Fin 2)).val) (j (1 : Fin 2)).val)
      = fun j => sOf (h l) cw cb (xsOf XS (grp t l.val)) (r + (j (0 : Fin 2)).val) (j (1 : Fin 2)).val := by
    funext j
    unfold sOf
    rw [← Nat.add_assoc]
    rfl
  rw [hc, hs]
  iapply Hk
  isplitl [H]; · iexact H
  isplitl [Hw]; · iexact Hw
  isplitl [Hb] <;> iassumption

variable {κ : Pg F α}

theorem wp_nyquist {H0 : ℕ → ℕ → Elt F .f32} {H1 : ℕ → ℕ → Elt F .bf16} :
    iprop((Kn d (bH l) (fun x => x < 1056) (h l) ∗ Kn d (bS l) (fun _ => False) H0 ∗ KO d (2 * (t % 2) + l.val) (fun _ => False) H1) ∗ RO d cw cb XS)
      ⊢ iprop((iprop(Lane d cw cb XS h t l 0 ∗ RO d cw cb XS) -∗ WP defs d κ Q) -∗ WP defs d (nyquist t ht l κ) Q) := by
  unfold nyquist Lane
  iintro ⟨⟨H, Hs, Ho⟩, Hr⟩ Hk
  iapply (wp_loads (r := 512) (p := 1025) rfl (by decide)) $$ [H Hr]
  · isplitl [H] <;> iassumption
  iintro ⟨H, Hr⟩
  ihave Hs := (Kn_forget (H' := sb cw cb XS h t l)) $$ Hs
  iapply (wp_putK (K' := fun x => x = 0) (fun j => ?_) (fun x hx => by omega)) $$ Hs
  · have h0 : (j (0 : Fin 2)).val < 1 := (j (0 : Fin 2)).isLt
    unfold sb sbOf
    rw [if_pos (by omega)]
    show cOf (h l) cw cb (xsOf XS (grp t l.val)) (512 + (0 + (j (0 : Fin 2)).val)) (0 + (j (1 : Fin 2)).val) = _
    rw [show 512 + (0 + (j (0 : Fin 2)).val) = 512 by omega, Nat.zero_add]
  iintro Hs
  iapply (wp_putK (K' := KS 0) (fun j => ?_) (fun x hx => by unfold KS at hx; omega)) $$ Hs
  · have h0 : (j (0 : Fin 2)).val < 1 := (j (0 : Fin 2)).isLt
    unfold sb sbOf
    rw [if_neg (by omega)]
    show sOf (h l) cw cb (xsOf XS (grp t l.val)) (512 + (0 + (j (0 : Fin 2)).val)) (0 + (j (1 : Fin 2)).val) = _
    rw [show 512 + (0 + (j (0 : Fin 2)).val) = 513 + (j (0 : Fin 2)).val - 1 by omega, Nat.zero_add]
  iintro Hs
  have ho : KO d (2 * (t % 2) + l.val) (fun _ => False) H1 ⊢ (KO d (2 * (t % 2) + l.val) (KT 0) (so cw cb XS h t l) : sProp 𝕄) := by
    unfold KO
    iintro ⟨%A, -, Ho⟩
    iexists A
    isplitr
    · ipureintro
      intro y z _ hy
      unfold KT at hy
      omega
    · iexact Ho
  ihave Ho := ho $$ Ho
  iapply Hk
  isplitr [Hr]
  · isplitl [H]; · iexact H
    isplitl [Hs] <;> iassumption
  · iexact Hr

theorem wp_group {g : ℕ} {hg : g < 16} :
    iprop(Lane d cw cb XS h t l g ∗ RO d cw cb XS)
      ⊢ iprop((iprop(Lane d cw cb XS h t l (g + 1) ∗ RO d cw cb XS) -∗ WP defs d κ Q) -∗ WP defs d (group t ht l g hg κ) Q) := by
  unfold group Lane
  iintro ⟨⟨H, Hs, Ho⟩, Hr⟩ Hk
  iapply (wp_loads (r := 32 * g) (p := 513 + 32 * g) rfl (by omega)) $$ [H Hr]
  · isplitl [H] <;> iassumption
  iintro ⟨H, Hr⟩
  iapply (wp_putKO (K' := fun x => KT g x ∨ (32 * g ≤ x ∧ x < 32 * g + 32)) (fun j => ?_) (fun x hx => hx)) $$ Ho
  · have h1 : (j (1 : Fin 3)).val < 32 := (j (1 : Fin 3)).isLt
    rw [so, soOf_low _ _ _ _ (by omega), shapeCast_slab]
    rfl
  iintro Ho
  iapply (wp_putK (K' := KS (g + 1)) (fun j => ?_) (fun x hx => by unfold KS at hx ⊢; omega)) $$ Hs
  · unfold sb sbOf
    rw [if_neg (by omega), show 1 + 32 * g + (j (0 : Fin 2)).val - 1 = 32 * g + (j (0 : Fin 2)).val by omega]
  iintro Hs
  iapply (wp_ldK fun i hi => by unfold KS; omega) $$ Hs
  iintro Hs
  iapply (wp_putKO (K' := KT (g + 1)) (fun j => ?_) (fun x hx => by unfold KT at hx ⊢; omega)) $$ Ho
  · rw [Nat.add_assoc, so, soOf_high, shapeCast_slab]
    rfl
  iintro Ho
  iapply Hk
  isplitr [Hr]
  · isplitl [H]; · iexact H
    isplitl [Hs] <;> iassumption
  · iexact Hr

theorem wp_finish' :
    Lane d cw cb XS h t l 16
      ⊢ iprop((iprop(Kn d (bH l) (fun x => x < 1056) (h l) ∗ Kn d (bS l) (KS 16) (sb cw cb XS h t l)
            ∗ KO d (2 * (t % 2) + l.val) (fun x => x < 1026) (so cw cb XS h t l)) -∗ WP defs d (startO t ht l κ) Q)
        -∗ WP defs d (finish t ht l κ) Q) := by
  unfold finish Lane
  iintro ⟨H, Hs, Ho⟩ Hk
  iapply (wp_ldK fun i hi => by unfold KS; omega) $$ Hs
  iintro Hs
  iapply (wp_putKO (K' := fun x => x < 1026) (fun j => ?_) (fun x hx => by unfold KT; omega)) $$ Ho
  · rw [show 1024 + (j (1 : Fin 3)).val = 512 + (512 + (j (1 : Fin 3)).val) by omega, so, soOf_high, shapeCast_slab]
    rfl
  iintro Ho
  iapply Hk
  isplitl [H]; · iexact H
  isplitl [Hs] <;> iassumption

end Cert.KernelIdeal
-- ==== Proof.Dma.lean ====
/- The rules for the kernel's copies, one by one and for a whole family of them. -/
module

public import proofs.«01_k».proof.Proof.Rules
public import Idealize.ShloMosaic.Lib.ValueLayout
public import Idealize.SL.BI.BigOpNat

@[expose] public section

noncomputable section

namespace Cert.KernelIdeal

open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Cert.Own

variable {F : FTy → Type} [FloatOps F] [Facts]

local notation "𝕄" => MT nD τ sig Unit (Elt F) ℕ (Pipeline.UD sig nD τ) ℕ

variable (d : Dev nD)

/-! ## The cells, by number -/

def cell (n : ℕ) : DmaSem sig := if h : n < 89 then ⟨n, h⟩ else ⟨0, by decide⟩

theorem iC_cell (n : ℕ) (h : n < nIn) : (iC n h).sem = cell n := by
  have h' : n < 89 := Nat.lt_trans h (by decide)
  unfold cell
  rw [dif_pos h']
  refine Fin.ext ?_
  show 0 + (S73.rowMajor ((Rect.unit (s := SIn) ![n] S1.size (inb1 h)).emb _)).val = n
  rw [Shape.rowMajor_val_one, Nat.zero_add]
  show n + 1 * (_ : Fin 1).val = n
  omega

theorem oC_cell (n : ℕ) (h : n < 16) : (oC n h).sem = cell (73 + n) := by
  have h' : 73 + n < 89 := by omega
  unfold cell
  rw [dif_pos h']
  refine Fin.ext ?_
  show 73 + (S16.rowMajor ((Rect.unit (s := S16) ![n] S1.size (inb1 h)).emb _)).val = 73 + n
  rw [Shape.rowMajor_val_one]
  show 73 + (n + 1 * (_ : Fin 1).val) = 73 + n
  omega

/-- Cell `n` at rest. -/
def sv (n : ℕ) : sProp 𝕄 := semVal ((d : Thread nD τ), SemLoc.dma (cell n)) 0

/-- Nothing owed. -/
def OW : sProp 𝕄 := iprop(∃ W, owes (d : Thread nD τ) 0 W)

variable (F) in
abbrev EC : UEmb Counters 𝕄 := countersEmb (U := Pipeline.UD sig nD τ)

variable {defs : Defs nD τ sig (Elt F) Λ₀} {α : Type} {Q : α → sProp (MT nD τ sig Unit (Elt F) ℕ (Pipeline.UD sig nD τ) ℕ)}

/-! ## One copy -/

/-- A copy in flight on cell `n`, crediting `N`, that will deliver `D`. -/
def Fly (n N : ℕ) (D : sProp 𝕄) : sProp 𝕄 := Flight (EC F) (d : Thread nD τ) (.dma (cell n)) () N D

theorem wp_start {sp sp' : Space} {s : Shape} {e : EltTy} {src : Memref sig .tc sp s e} {dst : Memref sig .tc sp' s e}
    {φ ψ : s.Idx → Elt F e} {sm : DmaSem sig} {n : ℕ} (hsm : sm = cell n)
    {hsrc : src.view.WordExact} {hdst : dst.view.WordExact} {hsem : DmaTarget.Typed (nD := nD) (p := (.tc : Proc τ)) sp (.dma sm) (.here dst)}
    {κ : Pg F α} (hs : 0 < s.numel) :
    iprop(own (d : Thread nD τ) src (fun _ => True) φ ∗ own (d : Thread nD τ) dst (fun _ => True) ψ ∗ sv d n)
      ⊢ iprop((Fly d n dst.view.dmaCredit iprop(own (d : Thread nD τ) src (fun _ => True) φ ∗ own (d : Thread nD τ) dst (fun _ => True) φ)
              -∗ WP defs d κ Q)
          -∗ WP defs d (.op (.enqueueDma src (.here dst) (.dma sm) hsrc hdst hsem) fun _ => κ) Q) := by
  subst hsm
  unfold Fly sv
  exact wp_own_dma (d : Thread nD τ) Variants.none none (EC F) (src := src) (dst := dst) (φ := φ) (ψ := ψ) (k := fun _ => κ) () hs

theorem wp_wait {sp sp' : Space} {s : Shape} {e : EltTy} {src : Memref sig .tc sp s e} {dst : Memref sig .tc sp' s e}
    {sm : DmaSem sig} {n N : ℕ} (hsm : sm = cell n) {hsrc : src.view.WordExact} {hdst : dst.view.WordExact}
    {κ : Pg F α} (hN : dst.view.dmaCredit = N) {D : sProp 𝕄} :
    iprop(Fly d n N D ∗ OW d)
      ⊢ iprop((iprop(D ∗ sv d n ∗ OW d) -∗ WP defs d κ Q)
          -∗ WP defs d (.op (.waitDma2 sm src dst hsrc hdst) fun _ => κ) Q) := by
  subst hsm
  unfold OW Fly sv
  iintro ⟨Hf, ⟨%W, HW⟩⟩ Hk
  iapply (wp_waitLocal (EC F) Variants.none (d : Thread nD τ) none () hN) $$ [Hf HW]
  · isplitl [Hf] <;> iassumption
  iintro ⟨HD, Hv, HW⟩
  iapply Hk
  isplitl [HD]; · iexact HD
  isplitl [Hv]; · iexact Hv
  iexists _
  iexact HW

theorem Fly_mono {n N : ℕ} {D D' : sProp 𝕄} (h : D ⊢ D') : Fly d n N D ⊢ Fly d n N D' := flight_mono _ _ h

/-! ## Rectangles -/

/-- The rectangle of `a` rows from `r` and `b` columns from `c`. -/
def rect (r c a b : ℕ) : ℕ → ℕ → Prop := fun x y => r ≤ x ∧ x < r + a ∧ c ≤ y ∧ y < c + b

section
variable {sp : Space} {e : EltTy} {R C : ℕ} {m : Memref sig .tc sp ⟨2, ![R, C]⟩ e} {r c a b : ℕ} {A : ℕ → ℕ → Elt F e}

theorem rect_iff (hr : r + a ≤ R) (hc : c + b ≤ C) (x : (⟨2, ![R, C]⟩ : Shape).Idx) :
    rect r c a b (x (0 : Fin 2)).val (x (1 : Fin 2)).val
      ↔ ∃ j, (Rect.unit (s := ⟨2, ![R, C]⟩) ![r, c] (⟨2, ![a, b]⟩ : Shape).size (inb2 hr hc)).emb j = x := by
  constructor
  · rintro ⟨h3, h4, h5, h6⟩
    refine ⟨(fun a' => match a' with
      | ⟨0, _⟩ => ⟨(x (0 : Fin 2)).val - r, by show _ < a; omega⟩
      | ⟨1, _⟩ => ⟨(x (1 : Fin 2)).val - c, by show _ < b; omega⟩), ?_⟩
    funext a'
    match a' with
    | ⟨0, _⟩ => exact Fin.ext (show r + 1 * ((x (0 : Fin 2)).val - r) = (x (0 : Fin 2)).val by omega)
    | ⟨1, _⟩ => exact Fin.ext (show c + 1 * ((x (1 : Fin 2)).val - c) = (x (1 : Fin 2)).val by omega)
  · rintro ⟨j, rfl⟩
    have h0 : (j (0 : Fin 2)).val < a := (j (0 : Fin 2)).isLt
    have h1 : (j (1 : Fin 2)).val < b := (j (1 : Fin 2)).isLt
    show r ≤ r + 1 * (j (0 : Fin 2)).val ∧ r + 1 * (j (0 : Fin 2)).val < r + a ∧ c ≤ c + 1 * (j (1 : Fin 2)).val
      ∧ c + 1 * (j (1 : Fin 2)).val < c + b
    omega

theorem O2_slice (hr : r + a ≤ R) (hc : c + b ≤ C) :
    O2 d m (rect r c a b) A ⊢ own (d : Thread nD τ) (sl2 m r c a b hr hc) (fun _ => True)
      (fun j => A (r + 1 * (j (0 : Fin 2)).val) (c + 1 * (j (1 : Fin 2)).val)) :=
  (own_iff (d : Thread nD τ) (rect_iff hr hc)).trans
    (own_slice (m := m) (φ := fun x => A (x (0 : Fin 2)).val (x (1 : Fin 2)).val) (d : Thread nD τ)
      (Rect.unit (s := ⟨2, ![R, C]⟩) ![r, c] (⟨2, ![a, b]⟩ : Shape).size (inb2 hr hc)) (fun _ => rfl))

theorem O2_unslice (hr : r + a ≤ R) (hc : c + b ≤ C) :
    own (d : Thread nD τ) (sl2 m r c a b hr hc) (fun _ => True)
      (fun j => A (r + 1 * (j (0 : Fin 2)).val) (c + 1 * (j (1 : Fin 2)).val)) ⊢ O2 d m (rect r c a b) A :=
  (own_unslice (m := m) (φ := fun x => A (x (0 : Fin 2)).val (x (1 : Fin 2)).val) (d : Thread nD τ)
    (Rect.unit (s := ⟨2, ![R, C]⟩) ![r, c] (⟨2, ![a, b]⟩ : Shape).size (inb2 hr hc)) (fun _ => rfl)).trans
    (own_iff (d : Thread nD τ) fun x => (rect_iff hr hc x).symm)
end

/-- A copy of a rectangle in flight. -/
def Fl2 {sp sp' : Space} {e : EltTy} {R C R' C' : ℕ} (m₁ : Memref sig .tc sp ⟨2, ![R, C]⟩ e) (m₂ : Memref sig .tc sp' ⟨2, ![R', C']⟩ e)
    (n r c a b : ℕ) (A : ℕ → ℕ → Elt F e) : sProp 𝕄 :=
  iprop(∃ N : ℕ, ⌜∀ hr hc, (sl2 m₂ r c a b hr hc).view.dmaCredit = N⌝
    ∗ Fly d n N iprop(O2 d m₁ (rect r c a b) A ∗ O2 d m₂ (rect r c a b) A))

section
variable {sp sp' : Space} {e : EltTy} {R C R' C' : ℕ} {m₁ : Memref sig .tc sp ⟨2, ![R, C]⟩ e} {m₂ : Memref sig .tc sp' ⟨2, ![R', C']⟩ e}
variable {r c a b : ℕ} {hr : r + a ≤ R} {hc : c + b ≤ C} {hr' : r + a ≤ R'} {hc' : c + b ≤ C'}
variable {A J : ℕ → ℕ → Elt F e} {sm : DmaSem sig} {n : ℕ} {κ : Pg F α}

theorem wp_start2 (hsm : sm = cell n) {hsrc : (sl2 m₁ r c a b hr hc).view.WordExact} {hdst : (sl2 m₂ r c a b hr' hc').view.WordExact}
    {hsem : DmaTarget.Typed (nD := nD) (p := (.tc : Proc τ)) sp (.dma sm) (.here (sl2 m₂ r c a b hr' hc'))} (hs : 0 < (⟨2, ![a, b]⟩ : Shape).numel) :
    iprop(O2 d m₁ (rect r c a b) A ∗ O2 d m₂ (rect r c a b) J ∗ sv d n)
      ⊢ iprop((Fl2 d m₁ m₂ n r c a b A -∗ WP defs d κ Q)
          -∗ WP defs d (.op (.enqueueDma (sl2 m₁ r c a b hr hc) (.here (sl2 m₂ r c a b hr' hc')) (.dma sm) hsrc hdst hsem) fun _ => κ) Q) := by
  iintro ⟨H1, H2, Hv⟩ Hk
  ihave H1 := (O2_slice d hr hc) $$ H1
  ihave H2 := (O2_slice d hr' hc') $$ H2
  iapply (wp_start d (src := sl2 m₁ r c a b hr hc) (dst := sl2 m₂ r c a b hr' hc')
    (φ := fun j => A (r + 1 * (j (0 : Fin 2)).val) (c + 1 * (j (1 : Fin 2)).val))
    (ψ := fun j => J (r + 1 * (j (0 : Fin 2)).val) (c + 1 * (j (1 : Fin 2)).val)) hsm hs) $$ [H1 H2 Hv]
  · isplitl [H1]; · iexact H1
    isplitl [H2]; · iexact H2
    iexact Hv
  iintro Hf
  iapply Hk
  unfold Fl2
  iexists (sl2 m₂ r c a b hr' hc').view.dmaCredit
  isplitr
  · ipureintro; exact fun _ _ => rfl
  have hD : iprop(own (d : Thread nD τ) (sl2 m₁ r c a b hr hc) (fun _ => True)
        (fun j => A (r + 1 * (j (0 : Fin 2)).val) (c + 1 * (j (1 : Fin 2)).val))
      ∗ own (d : Thread nD τ) (sl2 m₂ r c a b hr' hc') (fun _ => True)
        (fun j => A (r + 1 * (j (0 : Fin 2)).val) (c + 1 * (j (1 : Fin 2)).val)))
      ⊢ iprop(O2 d m₁ (rect r c a b) A ∗ O2 d m₂ (rect r c a b) A : sProp 𝕄) := by
    iintro ⟨H1, H2⟩
    isplitl [H1]
    · iapply (O2_unslice d hr hc) $$ H1
    · iapply (O2_unslice d hr' hc') $$ H2
  iapply (Fly_mono d hD) $$ Hf

theorem wp_wait2 (hsm : sm = cell n) {hsrc : (sl2 m₁ r c a b hr hc).view.WordExact} {hdst : (sl2 m₂ r c a b hr' hc').view.WordExact} :
    iprop(Fl2 d m₁ m₂ n r c a b A ∗ OW d)
      ⊢ iprop((iprop(O2 d m₁ (rect r c a b) A ∗ O2 d m₂ (rect r c a b) A ∗ sv d n ∗ OW d) -∗ WP defs d κ Q)
          -∗ WP defs d (.op (.waitDma2 sm (sl2 m₁ r c a b hr hc) (sl2 m₂ r c a b hr' hc') hsrc hdst) fun _ => κ) Q) := by
  unfold Fl2
  iintro ⟨⟨%N, %hN, Hf⟩, HW⟩ Hk
  iapply (wp_wait d (src := sl2 m₁ r c a b hr hc) (dst := sl2 m₂ r c a b hr' hc') hsm (hN _ _)) $$ [Hf HW]
  · isplitl [Hf] <;> iassumption
  iintro ⟨⟨H1, H2⟩, Hv, HW⟩
  iapply Hk
  isplitl [H1]; · iexact H1
  isplitl [H2]; · iexact H2
  isplitl [Hv] <;> iassumption
end

theorem bigSep_none (A : ℕ → sProp 𝕄) : bigSep (Finset.Ico 0 0) A = iprop(emp) := by
  rw [Finset.Ico_self]; exact bigSep_empty

/-! ## Families of copies over disjoint rectangles -/

/-- Copy `i` of `N` moves the elements of `S` of rank `i`, a rectangle, on cell `sem i`. -/
structure Fam where
  N : ℕ
  S : ℕ → ℕ → Prop
  ρ : ℕ → ℕ → ℕ
  sem : ℕ → ℕ
  r : ℕ → ℕ
  c : ℕ → ℕ
  a : ℕ → ℕ
  b : ℕ → ℕ
  rect_iff : ∀ i, i < N → ∀ x y, rect (r i) (c i) (a i) (b i) x y ↔ S x y ∧ ρ x y = i

section Family
variable {sp sp' : Space} {e : EltTy} {R C R' C' : ℕ} (m₁ : Memref sig .tc sp ⟨2, ![R, C]⟩ e) (m₂ : Memref sig .tc sp' ⟨2, ![R', C']⟩ e)
variable (f : Fam) (A J : ℕ → ℕ → Elt F e)

/-- Copies before `i` started. -/
def Pend (i : ℕ) : sProp 𝕄 :=
  iprop(O2 d m₁ (fun x y => f.S x y ∧ i ≤ f.ρ x y) A ∗ O2 d m₂ (fun x y => f.S x y ∧ i ≤ f.ρ x y) J
    ∗ bigSep (Finset.Ico i f.N) (fun n => sv d (f.sem n))
    ∗ bigSep (Finset.Ico 0 i) (fun n => Fl2 d m₁ m₂ (f.sem n) (f.r n) (f.c n) (f.a n) (f.b n) A))

/-- Copies before `i` landed, the others in flight. -/
def Land (i : ℕ) : sProp 𝕄 :=
  iprop(O2 d m₁ (fun x y => f.S x y ∧ f.ρ x y < i) A ∗ O2 d m₂ (fun x y => f.S x y ∧ f.ρ x y < i) A
    ∗ bigSep (Finset.Ico i f.N) (fun n => Fl2 d m₁ m₂ (f.sem n) (f.r n) (f.c n) (f.a n) (f.b n) A)
    ∗ bigSep (Finset.Ico 0 i) (fun n => sv d (f.sem n)))

variable {m₁ m₂ f A J}

theorem Pend_zero : iprop(O2 d m₁ f.S A ∗ O2 d m₂ f.S J ∗ bigSep (Finset.Ico 0 f.N) (fun n => sv d (f.sem n))) ⊢ Pend d m₁ m₂ f A J 0 := by
  unfold Pend
  iintro ⟨H1, H2, Hs⟩
  ihave H1 := (O2_iff d (P₁ := fun x y => f.S x y ∧ 0 ≤ f.ρ x y) (fun x y _ _ => ⟨fun h => ⟨h, Nat.zero_le _⟩, fun h => h.1⟩)) $$ H1
  ihave H2 := (O2_iff d (P₁ := fun x y => f.S x y ∧ 0 ≤ f.ρ x y) (fun x y _ _ => ⟨fun h => ⟨h, Nat.zero_le _⟩, fun h => h.1⟩)) $$ H2
  isplitl [H1]; · iexact H1
  isplitl [H2]; · iexact H2
  isplitl [Hs]; · iexact Hs
  rw [bigSep_none]
  iempintro

theorem Pend_last (hρ : ∀ x y, x < R → y < C → f.S x y → f.ρ x y < f.N) (hρ' : ∀ x y, x < R' → y < C' → f.S x y → f.ρ x y < f.N) :
    Pend d m₁ m₂ f A J f.N ⊢ Land d m₁ m₂ f A 0 := by
  unfold Pend Land
  iintro ⟨H1, H2, -, Hf⟩
  ihave H1 := (O2_iff d (P₁ := fun x y => f.S x y ∧ f.ρ x y < 0)
    (fun x y hx hy => ⟨fun h => absurd (hρ x y hx hy h.1) (by omega), fun h => absurd h.2 (by omega)⟩)) $$ H1
  ihave H2 := (O2_iff d (P₁ := fun x y => f.S x y ∧ f.ρ x y < 0)
    (fun x y hx hy => ⟨fun h => absurd (hρ' x y hx hy h.1) (by omega), fun h => absurd h.2 (by omega)⟩)) $$ H2
  ihave H2 := (O2_val d (B := A) (fun x y hx hy h => absurd h.2 (by omega))) $$ H2
  isplitl [H1]; · iexact H1
  isplitl [H2]; · iexact H2
  isplitl [Hf]; · iexact Hf
  rw [bigSep_none]
  iempintro

theorem Land_last (hρ : ∀ x y, x < R → y < C → f.S x y → f.ρ x y < f.N) (hρ' : ∀ x y, x < R' → y < C' → f.S x y → f.ρ x y < f.N) :
    Land d m₁ m₂ f A f.N ⊢ iprop(O2 d m₁ f.S A ∗ O2 d m₂ f.S A ∗ bigSep (Finset.Ico 0 f.N) (fun n => sv d (f.sem n))) := by
  unfold Land
  iintro ⟨H1, H2, -, Hs⟩
  ihave H1 := (O2_iff d (P₁ := f.S) (fun x y hx hy => ⟨fun h => h.1, fun h => ⟨h, hρ x y hx hy h⟩⟩)) $$ H1
  ihave H2 := (O2_iff d (P₁ := f.S) (fun x y hx hy => ⟨fun h => h.1, fun h => ⟨h, hρ' x y hx hy h⟩⟩)) $$ H2
  isplitl [H1]; · iexact H1
  isplitl [H2] <;> iassumption

variable {i : ℕ} (hi : i < f.N) {r c a b : ℕ} (hreg : f.r i = r ∧ f.c i = c ∧ f.a i = a ∧ f.b i = b)
variable {hr : r + a ≤ R} {hc : c + b ≤ C} {hr' : r + a ≤ R'} {hc' : c + b ≤ C'} {sm : DmaSem sig} {κ : Pg F α}

include hi hreg in
theorem wp_pend (hsm : sm = cell (f.sem i)) {hsrc : (sl2 m₁ r c a b hr hc).view.WordExact}
    {hdst : (sl2 m₂ r c a b hr' hc').view.WordExact} {hsem : DmaTarget.Typed (nD := nD) (p := (.tc : Proc τ)) sp (.dma sm) (.here (sl2 m₂ r c a b hr' hc'))}
    (hs : 0 < (⟨2, ![a, b]⟩ : Shape).numel) :
    Pend d m₁ m₂ f A J i
      ⊢ iprop((Pend d m₁ m₂ f A J (i + 1) -∗ WP defs d κ Q)
          -∗ WP defs d (.op (.enqueueDma (sl2 m₁ r c a b hr hc) (.here (sl2 m₂ r c a b hr' hc')) (.dma sm) hsrc hdst hsem) fun _ => κ) Q) := by
  obtain ⟨rfl, rfl, rfl, rfl⟩ := hreg
  unfold Pend
  rw [bigSep_Ico_succ_bot hi]
  iintro ⟨H1, H2, ⟨Hv, Hs⟩, Hf⟩ Hk
  ihave H1 := (O2_split d (P₁ := rect (f.r i) (f.c i) (f.a i) (f.b i)) (P₂ := fun x y => f.S x y ∧ i + 1 ≤ f.ρ x y)
    (fun x y _ _ => by rw [f.rect_iff i hi]; constructor
                       · rintro ⟨h, h'⟩; by_cases he : f.ρ x y = i
                         · exact .inl ⟨h, he⟩
                         · exact .inr ⟨h, by omega⟩
                       · rintro (⟨h, h'⟩ | ⟨h, h'⟩) <;> exact ⟨h, by omega⟩)
    (fun x y _ _ h h' => by rw [f.rect_iff i hi] at h; omega)) $$ H1
  ihave H2 := (O2_split d (P₁ := rect (f.r i) (f.c i) (f.a i) (f.b i)) (P₂ := fun x y => f.S x y ∧ i + 1 ≤ f.ρ x y)
    (fun x y _ _ => by rw [f.rect_iff i hi]; constructor
                       · rintro ⟨h, h'⟩; by_cases he : f.ρ x y = i
                         · exact .inl ⟨h, he⟩
                         · exact .inr ⟨h, by omega⟩
                       · rintro (⟨h, h'⟩ | ⟨h, h'⟩) <;> exact ⟨h, by omega⟩)
    (fun x y _ _ h h' => by rw [f.rect_iff i hi] at h; omega)) $$ H2
  icases H1 with ⟨H1, H1'⟩
  icases H2 with ⟨H2, H2'⟩
  iapply (wp_start2 d hsm hs) $$ [H1 H2 Hv]
  · isplitl [H1]; · iexact H1
    isplitl [H2] <;> iassumption
  iintro Hn
  iapply Hk
  isplitl [H1']; · iexact H1'
  isplitl [H2']; · iexact H2'
  isplitl [Hs]; · iexact Hs
  rw [bigSep_Ico_succ_top (Nat.zero_le i)]
  isplitl [Hn] <;> iassumption

include hi hreg in
theorem wp_land (hsm : sm = cell (f.sem i)) {hsrc : (sl2 m₁ r c a b hr hc).view.WordExact}
    {hdst : (sl2 m₂ r c a b hr' hc').view.WordExact} :
    iprop(Land d m₁ m₂ f A i ∗ OW d)
      ⊢ iprop((iprop(Land d m₁ m₂ f A (i + 1) ∗ OW d) -∗ WP defs d κ Q)
          -∗ WP defs d (.op (.waitDma2 sm (sl2 m₁ r c a b hr hc) (sl2 m₂ r c a b hr' hc') hsrc hdst) fun _ => κ) Q) := by
  obtain ⟨rfl, rfl, rfl, rfl⟩ := hreg
  unfold Land
  rw [bigSep_Ico_succ_bot hi]
  iintro ⟨⟨H1, H2, ⟨Hn, Hf⟩, Hs⟩, HW⟩ Hk
  iapply (wp_wait2 d hsm) $$ [Hn HW]
  · isplitl [Hn] <;> iassumption
  iintro ⟨H1', H2', Hv, HW⟩
  have hsplit : ∀ x y, (f.S x y ∧ f.ρ x y < i + 1) ↔ (f.S x y ∧ f.ρ x y < i) ∨ rect (f.r i) (f.c i) (f.a i) (f.b i) x y := by
    intro x y
    rw [f.rect_iff i hi]
    constructor
    · rintro ⟨h, h'⟩; by_cases he : f.ρ x y = i
      · exact .inr ⟨h, he⟩
      · exact .inl ⟨h, by omega⟩
    · rintro (⟨h, h'⟩ | ⟨h, h'⟩) <;> exact ⟨h, by omega⟩
  have hdis : ∀ x y, (f.S x y ∧ f.ρ x y < i) → rect (f.r i) (f.c i) (f.a i) (f.b i) x y → False := by
    intro x y h h'
    rw [f.rect_iff i hi] at h'
    omega
  ihave H1 := (O2_join d (fun x y _ _ => hsplit x y) (fun x y _ _ => hdis x y)) $$ [H1 H1']
  · isplitl [H1] <;> iassumption
  ihave H2 := (O2_join d (fun x y _ _ => hsplit x y) (fun x y _ _ => hdis x y)) $$ [H2 H2']
  · isplitl [H2] <;> iassumption
  iapply Hk
  isplitr [HW]
  · isplitl [H1]; · iexact H1
    isplitl [H2]; · iexact H2
    isplitl [Hf]; · iexact Hf
    rw [bigSep_Ico_succ_top (Nat.zero_le i)]
    isplitl [Hv] <;> iassumption
  · iexact HW
end Family

end Cert.KernelIdeal
-- ==== Proof.Out.lean ====
/- The copies of the spectrum out of its staging buffer. -/
module

public import proofs.«01_k».proof.Proof.Dma
public import proofs.«01_k».proof.Proof.Kn

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx

open Shapes1.Facts₀ Shapes2.Facts₀ K0.Facts₀ Facts₀ Facts

variable {F : FTy → Type} [FloatOps F] [Facts]

local notation "𝕄" => MT nD τ sig Unit (Elt F) ℕ (Pipeline.UD sig nD τ) ℕ

variable (d : Dev nD)

/-- The slab `n`, lanes from `z`. -/
def slab (n z : ℕ) : ℕ → ℕ → ℕ → Prop := fun b _ l => b = n ∧ z ≤ l ∧ l < z + 128

section
variable {sp : Space} {R D : ℕ} {m : Memref sig .tc sp ⟨3, ![R, 1026, D]⟩ .bf16} {n z : ℕ} {A : ℕ → ℕ → ℕ → Elt F .bf16}

/-- The slab as a matrix. -/
abbrev sl3 (m : Memref sig .tc sp ⟨3, ![R, 1026, D]⟩ .bf16) (n z : ℕ) (hn : n + 1 ≤ R) (hz : z + 128 ≤ D) : Memref sig .tc sp S1026x128 .bf16 :=
  (m.slice (Rect.unit (s := ⟨3, ![R, 1026, D]⟩) ![n, 0, z] S1x1026x128.size (inb3 hn (le_refl 1026) hz)) (fun _ => rfl)).squeeze
    S1026x128 squeezes_S1x1026x128_S1026x128

theorem slab_iff (hn : n + 1 ≤ R) (hz : z + 128 ≤ D) (x : (⟨3, ![R, 1026, D]⟩ : Shape).Idx) :
    slab n z (x (0 : Fin 3)).val (x (1 : Fin 3)).val (x (2 : Fin 3)).val
      ↔ ∃ j, (Rect.unit (s := ⟨3, ![R, 1026, D]⟩) ![n, 0, z] S1x1026x128.size (inb3 hn (le_refl 1026) hz)).emb j = x := by
  constructor
  · rintro ⟨h3, h4, h5⟩
    have hy : (x (1 : Fin 3)).val < 1026 := (x (1 : Fin 3)).isLt
    refine ⟨(fun a' => match a' with
      | ⟨0, _⟩ => ⟨0, by show _ < 1; omega⟩
      | ⟨1, _⟩ => ⟨(x (1 : Fin 3)).val, by show _ < 1026; omega⟩
      | ⟨2, _⟩ => ⟨(x (2 : Fin 3)).val - z, by show _ < 128; omega⟩), ?_⟩
    funext a'
    match a' with
    | ⟨0, _⟩ => exact Fin.ext (show n + 1 * 0 = (x (0 : Fin 3)).val by omega)
    | ⟨1, _⟩ => exact Fin.ext (show 0 + 1 * (x (1 : Fin 3)).val = (x (1 : Fin 3)).val by omega)
    | ⟨2, _⟩ => exact Fin.ext (show z + 1 * ((x (2 : Fin 3)).val - z) = (x (2 : Fin 3)).val by omega)
  · rintro ⟨j, rfl⟩
    have h0 : (j (0 : Fin 3)).val < 1 := (j (0 : Fin 3)).isLt
    have h1 : (j (2 : Fin 3)).val < 128 := (j (2 : Fin 3)).isLt
    show n + 1 * (j (0 : Fin 3)).val = n ∧ z ≤ z + 1 * (j (2 : Fin 3)).val ∧ z + 1 * (j (2 : Fin 3)).val < z + 128
    omega

/-- What the slab reads, over its own indices. -/
def inSlab (A : ℕ → ℕ → ℕ → Elt F .bf16) (n z : ℕ) : S1x1026x128.Idx → Elt F .bf16 :=
  fun x => A (n + 1 * (x (0 : Fin 3)).val) (0 + 1 * (x (1 : Fin 3)).val) (z + 1 * (x (2 : Fin 3)).val)

theorem inSlab_reshape (j : S1026x128.Idx) :
    inSlab A n z (Shape.reshapeEquiv squeezes_S1x1026x128_S1026x128.numel_eq j) = A n (j (0 : Fin 2)).val (z + (j (1 : Fin 2)).val) := by
  have e : j = ValueIdx.ix2 (⟨(j (0 : Fin 2)).val, (j (0 : Fin 2)).isLt⟩ : Fin 1026) (⟨(j (1 : Fin 2)).val, (j (1 : Fin 2)).isLt⟩ : Fin 128) := by
    funext a
    match a with
    | ⟨0, _⟩ => rfl
    | ⟨1, _⟩ => rfl
  rw [e, ValueIdx.reshapeEquiv_ix2_1ab]
  show A (n + 1 * 0) (0 + 1 * (j (0 : Fin 2)).val) (z + 1 * (j (1 : Fin 2)).val) = A n (j (0 : Fin 2)).val (z + (j (1 : Fin 2)).val)
  rw [Nat.mul_zero, Nat.add_zero, one_mul, one_mul, Nat.zero_add]

theorem O3_slab (hn : n + 1 ≤ R) (hz : z + 128 ≤ D) :
    O3 d m (slab n z) A ⊢ own (d : Thread nD τ) (sl3 m n z hn hz) (fun _ => True)
      (fun j => A n (j (0 : Fin 2)).val (z + (j (1 : Fin 2)).val)) := by
  refine (own_iff (d : Thread nD τ) (slab_iff hn hz)).trans ?_
  refine (own_slice (m := m) (φ := fun x => A (x (0 : Fin 3)).val (x (1 : Fin 3)).val (x (2 : Fin 3)).val) (d : Thread nD τ)
    (Rect.unit (s := ⟨3, ![R, 1026, D]⟩) ![n, 0, z] S1x1026x128.size (inb3 hn (le_refl 1026) hz)) (fun _ => rfl)).trans ?_
  refine (own_squeeze (φ := inSlab A n z) (d : Thread nD τ) squeezes_S1x1026x128_S1026x128).trans ?_
  exact own_val (d : Thread nD τ) fun j _ => inSlab_reshape j

theorem O3_unslab (hn : n + 1 ≤ R) (hz : z + 128 ≤ D) :
    own (d : Thread nD τ) (sl3 m n z hn hz) (fun _ => True) (fun j => A n (j (0 : Fin 2)).val (z + (j (1 : Fin 2)).val))
      ⊢ O3 d m (slab n z) A := by
  refine (own_val (d : Thread nD τ) fun j _ => (inSlab_reshape j).symm).trans ?_
  refine (own_unsqueeze (φ := inSlab A n z) (d : Thread nD τ) squeezes_S1x1026x128_S1026x128).trans ?_
  refine (own_unslice (m := m) (φ := fun x => A (x (0 : Fin 3)).val (x (1 : Fin 3)).val (x (2 : Fin 3)).val) (d : Thread nD τ)
    (Rect.unit (s := ⟨3, ![R, 1026, D]⟩) ![n, 0, z] S1x1026x128.size (inb3 hn (le_refl 1026) hz)) (fun _ => rfl)).trans ?_
  exact own_iff (d : Thread nD τ) fun x => (slab_iff hn hz x).symm
end

/-- Slot `n` of the staging buffer at rest: free, its cell at zero. -/
def Free (n : ℕ) : sProp 𝕄 := iprop((∃ A : ℕ → ℕ → ℕ → Elt F .bf16, O3 d bO (fun s _ _ => s = n) A) ∗ sv d (73 + n))

/-- The part of the result that group `w` of frames is. -/
def part (w : ℕ) : ℕ → ℕ → ℕ → Prop := fun b _ z => 5 * b + z / 128 = w

/-- A copy of slot `n` out to group `w` in flight. -/
def FlO (n w : ℕ) (so : ℕ → ℕ → Elt F .bf16) : sProp 𝕄 :=
  iprop(∃ N : ℕ, ⌜∀ hb hg, (slY (w / 5) (w % 5) hb hg).view.dmaCredit = N⌝
    ∗ Fly d (73 + n) N iprop((∃ A : ℕ → ℕ → ℕ → Elt F .bf16, O3 d bO (fun s _ _ => s = n) A) ∗ O3 d aO (part w) (fun _ y z => so y (z % 128))))

variable {defs : Defs nD τ sig (Elt F) Λ₀} {α : Type} {Q : α → sProp (MT nD τ sig Unit (Elt F) ℕ (Pipeline.UD sig nD τ) ℕ)}
variable {d} {t : ℕ} {ht : t < 8} {l : Fin 2} {κ : Pg F α} {so : ℕ → ℕ → Elt F .bf16}

theorem part_slab {w : ℕ} (b y z : ℕ) (hz : z < 640) : part w b y z ↔ slab (w / 5) (128 * (w % 5)) b y z := by
  unfold part slab; omega

theorem wp_startO {n w : ℕ} (hn : n = 2 * (t % 2) + l.val) (hw : w = grp t l.val) :
    iprop(KO d n (fun x => x < 1026) so ∗ (∃ J : ℕ → ℕ → ℕ → Elt F .bf16, O3 d aO (part w) J) ∗ sv d (73 + n))
      ⊢ iprop((FlO d n w so -∗ WP defs d κ Q) -∗ WP defs d (startO t ht l κ) Q) := by
  subst hn hw
  unfold startO KO
  iintro ⟨⟨%A, %hA, H1⟩, ⟨%J, H2⟩, Hv⟩ Hk
  ihave H1 := (O3_val d (B := fun _ y z => so y z) (fun x y z _ hy hz hx => by rw [hx]; exact hA y z hz hy)) $$ H1
  ihave H1 := (O3_iff d (P₁ := slab (2 * (t % 2) + l.val) 0) (fun x y z _ _ hz => by unfold slab; omega)) $$ H1
  ihave H1 := (O3_slab d (slot_lt t l) (le_refl 128)) $$ H1
  ihave H2 := (O3_iff d (P₁ := slab (grp t l.val / 5) (128 * (grp t l.val % 5))) (fun x y z _ _ hz => part_slab x y z hz)) $$ H2
  ihave H2 := (O3_slab d (grp_lt ht l.isLt) (show 128 * (grp t l.val % 5) + 128 ≤ 640 by omega)) $$ H2
  ihave H1 := (own_val (d : Thread nD τ) (ψ := fun j => so (j (0 : Fin 2)).val (j (1 : Fin 2)).val) (fun j _ => by rw [Nat.zero_add])) $$ H1
  iapply (wp_start d (src := slO (2 * (t % 2) + l.val) (slot_lt t l))
    (dst := slY (grp t l.val / 5) (grp t l.val % 5) (grp_lt ht l.isLt) (Nat.mod_lt _ (by decide)))
    (φ := fun j => so (j (0 : Fin 2)).val (j (1 : Fin 2)).val)
    (ψ := fun j => J (grp t l.val / 5) (j (0 : Fin 2)).val (128 * (grp t l.val % 5) + (j (1 : Fin 2)).val))
    (oC_cell _ _) (by decide)) $$ [H1 H2 Hv]
  · isplitl [H1]; · iexact H1
    isplitl [H2]; · iexact H2
    iexact Hv
  iintro Hf
  iapply Hk
  unfold FlO
  iexists _
  isplitr
  swap
  · iapply (Fly_mono d ?_) $$ Hf
    iintro ⟨H1, H2⟩
    ihave H1 := (own_val (d : Thread nD τ) (ψ := fun j => so (j (0 : Fin 2)).val (0 + (j (1 : Fin 2)).val)) (fun j _ => by rw [Nat.zero_add])) $$ H1
    have h1 : own (d : Thread nD τ) (slO (2 * (t % 2) + l.val) (slot_lt t l)) (fun _ => True)
        (fun j => so (j (0 : Fin 2)).val (0 + (j (1 : Fin 2)).val))
        ⊢ (O3 d bO (slab (2 * (t % 2) + l.val) 0) (fun _ y z => so y z) : sProp 𝕄) :=
      O3_unslab d (m := bO) (A := fun _ y z => so y z) (slot_lt t l) (le_refl 128)
    ihave H1 := h1 $$ H1
    ihave H2 := (own_val (d : Thread nD τ) (ψ := fun j => so (j (0 : Fin 2)).val ((128 * (grp t l.val % 5) + (j (1 : Fin 2)).val) % 128))
      (fun j _ => by
        have : (j (1 : Fin 2)).val < 128 := (j (1 : Fin 2)).isLt
        rw [show (128 * (grp t l.val % 5) + (j (1 : Fin 2)).val) % 128 = (j (1 : Fin 2)).val by omega])) $$ H2
    have h2 : own (d : Thread nD τ) (slY (grp t l.val / 5) (grp t l.val % 5) (grp_lt ht l.isLt) (Nat.mod_lt _ (by decide))) (fun _ => True)
        (fun j => so (j (0 : Fin 2)).val ((128 * (grp t l.val % 5) + (j (1 : Fin 2)).val) % 128))
        ⊢ (O3 d aO (slab (grp t l.val / 5) (128 * (grp t l.val % 5))) (fun _ y z => so y (z % 128)) : sProp 𝕄) :=
      O3_unslab d (m := aO) (A := fun _ y z => so y (z % 128)) (grp_lt ht l.isLt) (show 128 * (grp t l.val % 5) + 128 ≤ 640 by omega)
    ihave H2 := h2 $$ H2
    isplitl [H1]
    · iexists (fun _ y z => so y z)
      iapply (O3_iff d (P := slab (2 * (t % 2) + l.val) 0) (fun x y z _ _ hz => by unfold slab; omega)) $$ H1
    · iapply (O3_iff d (fun x y z _ _ hz => (part_slab x y z hz).symm)) $$ H2
  · ipureintro; exact fun _ _ => rfl

theorem wp_waitO {n w : ℕ} (hn : n = 2 * (t % 2) + l.val) (hw : w = grp t l.val) :
    iprop(FlO d n w so ∗ OW d)
      ⊢ iprop((iprop(Free d n ∗ O3 d aO (part w) (fun _ y z => so y (z % 128)) ∗ OW d) -∗ WP defs d κ Q)
        -∗ WP defs d (waitO t ht l κ) Q) := by
  subst hn hw
  unfold waitO FlO
  iintro ⟨⟨%N, %hN, Hf⟩, HW⟩ Hk
  iapply (wp_wait d (src := slO (2 * (t % 2) + l.val) (slot_lt t l))
    (dst := slY (grp t l.val / 5) (grp t l.val % 5) (grp_lt ht l.isLt) (Nat.mod_lt _ (by decide))) (oC_cell _ _)
    (hsrc := (((Memref.isWhole_whole _).wordExact_slice rfl _ (slabs3 _)).reshape _ _))
    (hdst := (((Memref.isWhole_whole _).wordExact_slice rfl _ (slabs3 _)).reshape _ _)) (hN _ _)) $$ [Hf HW]
  · isplitl [Hf] <;> iassumption
  iintro ⟨⟨H1, H2⟩, Hv, HW⟩
  iapply Hk
  unfold Free
  isplitl [H1 Hv]
  · isplitl [H1] <;> iassumption
  isplitl [H2] <;> iassumption

end Cert.KernelIdeal
-- ==== Proof.Items.lean ====
/- The work on the spectrum of a tile, item by item. -/
module

public import proofs.«01_k».proof.Proof.Epi
public import proofs.«01_k».proof.Proof.Out

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx
open Shapes1.Facts₀ Shapes2.Facts₀ K0.Facts₀ Facts₀ Facts

variable {F : FTy → Type} [FloatOps F] [Facts]

local notation "𝕄" => MT nD τ sig Unit (Elt F) ℕ (Pipeline.UD sig nD τ) ℕ

variable (d : Dev nD) (cw cb XS : ℕ → ℕ → Elt F .f32) (hh : ℕ → Fin 2 → ℕ → ℕ → Elt F .f32)

/-- A buffer of any contents. -/
def Any {R C : ℕ} {e : EltTy} (m : Memref sig .tc .vmem ⟨2, ![R, C]⟩ e) : sProp 𝕄 := iprop(∃ A : ℕ → ℕ → Elt F e, O2 d m T2 A)

variable {d} in
theorem Any_Kn {R : ℕ} {m : Memref sig .tc .vmem ⟨2, ![R, 128]⟩ .f32} {H : ℕ → ℕ → Elt F .f32} :
    Any d m ⊢ (Kn d m (fun _ => False) H : sProp 𝕄) := by
  unfold Any
  iintro ⟨%A, H⟩
  iapply Kn_of $$ H

variable {d} in
theorem Kn_Any {R : ℕ} {m : Memref sig .tc .vmem ⟨2, ![R, 128]⟩ .f32} {K : ℕ → Prop} {H : ℕ → ℕ → Elt F .f32} :
    Kn d m K H ⊢ (Any d m : sProp 𝕄) := by
  unfold Any Kn
  iintro ⟨%A, -, H⟩
  iexists A
  iexact H

/-- The lane group of a tile that the group `w` of frames is. -/
def laneOf (w : ℕ) : Fin 2 := if w = 0 then 0 else ⟨(w + 1) % 2, Nat.mod_lt _ (by decide)⟩

/-- The whole result. -/
def GG : ℕ → ℕ → ℕ → Elt F .bf16 := fun b y z =>
  so cw cb XS (hh ((5 * b + z / 128 + 1) / 2)) ((5 * b + z / 128 + 1) / 2) (laneOf (5 * b + z / 128)) y (z % 128)

theorem GG_part {t : ℕ} {l : Fin 2} (hl : l.val < lanes t) {b y z : ℕ} (h : part (grp t l.val) b y z) :
    so cw cb XS (hh t) t l y (z % 128) = GG cw cb XS hh b y z := by
  unfold part at h
  have hl2 := l.isLt
  unfold lanes at hl
  have e1 : (grp t l.val + 1) / 2 = t := by unfold grp; omega
  have e2 : laneOf (grp t l.val) = l := by
    unfold laneOf
    by_cases h0 : grp t l.val = 0
    · rw [if_pos h0]; unfold grp at h0; exact Fin.ext (show 0 = l.val by omega)
    · rw [if_neg h0]; unfold grp at h0 ⊢; exact Fin.ext (show (2 * t - 1 + l.val + 1) % 2 = l.val by omega)
  unfold GG
  rw [h, e1, e2]

/-- The slot of lane group `l` of tile `t` from the start of its copy. -/
def Busy (t : ℕ) (l : Fin 2) : sProp 𝕄 :=
  if l.val < lanes t then FlO d (2 * (t % 2) + l.val) (grp t l.val) (so cw cb XS (hh t) t l) else Free d (2 * (t % 2) + l.val)
/-- The same slot before tile `t`. -/
def Slot (t : ℕ) (l : Fin 2) : sProp 𝕄 := if t < 2 then Free d (2 * (t % 2) + l.val) else Busy d cw cb XS hh (t - 2) l
/-- Groups of frames copied out, -/
def Landed (n : ℕ) : sProp 𝕄 := O3 d aO (fun b _ z => 5 * b + z / 128 < n) (GG cw cb XS hh)
/-- and not yet. -/
def Pending (n : ℕ) : sProp 𝕄 := iprop(∃ J : ℕ → ℕ → ℕ → Elt F .bf16, O3 d aO (fun b _ z => n ≤ 5 * b + z / 128) J)
/-- The frames of lane group `l` of tile `t`, copied out, -/
def Gp (t : ℕ) (l : Fin 2) : sProp 𝕄 := if l.val < lanes t then O3 d aO (part (grp t l.val)) (GG cw cb XS hh) else iprop(emp)
/-- and not yet. -/
def Pp (t : ℕ) (l : Fin 2) : sProp 𝕄 :=
  if l.val < lanes t then iprop(∃ J : ℕ → ℕ → ℕ → Elt F .bf16, O3 d aO (part (grp t l.val)) J) else iprop(emp)

variable {d cw cb XS hh}

theorem Landed_join {t : ℕ} :
    iprop(Landed d cw cb XS hh (2 * t - 1) ∗ Gp d cw cb XS hh t 0 ∗ Gp d cw cb XS hh t 1) ⊢ (Landed d cw cb XS hh (2 * (t + 1) - 1) : sProp 𝕄) := by
  have h0 : (0 : Fin 2).val < lanes t := by show 0 < min t 1 + 1; omega
  unfold Landed Gp
  rw [if_pos h0]
  by_cases ht : t = 0
  · subst ht
    rw [if_neg (show ¬(1 : Fin 2).val < lanes 0 by decide)]
    iintro ⟨H, H0, -⟩
    iapply (O3_join d (P₁ := fun b _ z => 5 * b + z / 128 < 2 * 0 - 1) (P₂ := part (grp 0 (0 : Fin 2).val))
      (fun b y z _ _ _ => by show _ ↔ _ ∨ 5 * b + z / 128 = 0; omega)
      (fun b y z _ _ _ h h' => by omega)) $$ [H H0]
    isplitl [H] <;> iassumption
  · rw [if_pos (show (1 : Fin 2).val < lanes t by show 1 < min t 1 + 1; omega)]
    iintro ⟨H, H0, H1⟩
    ihave H := (O3_join d (P := fun b _ z => 5 * b + z / 128 < 2 * t) (P₁ := fun b _ z => 5 * b + z / 128 < 2 * t - 1) (P₂ := part (grp t (0 : Fin 2).val))
      (fun b y z _ _ _ => by show _ ↔ _ ∨ 5 * b + z / 128 = 2 * t - 1 + 0; omega)
      (fun b y z _ _ _ h h' => by change 5 * b + z / 128 = 2 * t - 1 + 0 at h'; omega)) $$ [H H0]
    · isplitl [H] <;> iassumption
    iapply (O3_join d (P₁ := fun b _ z => 5 * b + z / 128 < 2 * t) (P₂ := part (grp t (1 : Fin 2).val))
      (fun b y z _ _ _ => by show _ ↔ _ ∨ 5 * b + z / 128 = 2 * t - 1 + 1; omega)
      (fun b y z _ _ _ h h' => by change 5 * b + z / 128 = 2 * t - 1 + 1 at h'; omega)) $$ [H H1]
    isplitl [H] <;> iassumption

theorem Pending_split {t : ℕ} :
    (Pending d (2 * t - 1) : sProp 𝕄) ⊢ iprop((Pp d t 0 ∗ Pp d t 1) ∗ Pending d (2 * (t + 1) - 1)) := by
  have h0 : (0 : Fin 2).val < lanes t := by show 0 < min t 1 + 1; omega
  unfold Pending Pp
  rw [if_pos h0]
  iintro ⟨%J, H⟩
  ihave H := (O3_split d (P₁ := part (grp t (0 : Fin 2).val)) (P₂ := fun b _ z => 2 * t - 1 + 1 ≤ 5 * b + z / 128)
      (fun b y z _ _ _ => by show _ ↔ 5 * b + z / 128 = 2 * t - 1 + 0 ∨ _; omega)
      (fun b y z _ _ _ h h' => by change 5 * b + z / 128 = 2 * t - 1 + 0 at h; omega)) $$ H
  icases H with ⟨H0, H⟩
  by_cases ht : t = 0
  · subst ht
    rw [if_neg (show ¬(1 : Fin 2).val < lanes 0 by decide)]
    isplitl [H0]
    · isplitl [H0]
      · iexists J; iexact H0
      · iempintro
    iexists J
    iexact H
  · rw [if_pos (show (1 : Fin 2).val < lanes t by show 1 < min t 1 + 1; omega)]
    ihave H := (O3_split d (P₁ := part (grp t (1 : Fin 2).val)) (P₂ := fun b _ z => 2 * (t + 1) - 1 ≤ 5 * b + z / 128)
      (fun b y z _ _ _ => by show _ ↔ 5 * b + z / 128 = 2 * t - 1 + 1 ∨ _; omega)
      (fun b y z _ _ _ h h' => by change 5 * b + z / 128 = 2 * t - 1 + 1 at h; omega)) $$ H
    icases H with ⟨H1, H⟩
    isplitl [H0 H1]
    · isplitl [H0]
      · iexists J; iexact H0
      · iexists J; iexact H1
    iexists J
    iexact H

variable {defs : Defs nD τ sig (Elt F) Λ₀} {α : Type} {Q : α → sProp (MT nD τ sig Unit (Elt F) ℕ (Pipeline.UD sig nD τ) ℕ)}
variable {t : ℕ} {ht : t < 8} {κ : Pg F α}

theorem wp_forL {f : Fin 2 → Pg F α → Pg F α} (A B : Fin 2 → sProp (MT nD τ sig Unit (Elt F) ℕ (Pipeline.UD sig nD τ) ℕ))
    (R : sProp (MT nD τ sig Unit (Elt F) ℕ (Pipeline.UD sig nD τ) ℕ))
    (hstep : ∀ l, l.val < lanes t → ∀ κ, iprop(A l ∗ R) ⊢ iprop((iprop(B l ∗ R) -∗ WP defs d κ Q) -∗ WP defs d (f l κ) Q))
    (hrest : ¬(1 : Fin 2).val < lanes t → A 1 ⊢ B 1) :
    iprop((A 0 ∗ A 1) ∗ R) ⊢ iprop((iprop((B 0 ∗ B 1) ∗ R) -∗ WP defs d κ Q) -∗ WP defs d (forL t f κ) Q) := by
  iintro ⟨⟨H0, H1⟩, HR⟩ Hk
  match t with
  | 0 =>
    have e : forL 0 f κ = f 0 κ := rfl
    rw [e]
    iapply (hstep 0 (by decide) κ) $$ [H0 HR]
    · isplitl [H0] <;> iassumption
    iintro ⟨H0, HR⟩
    ihave H1 := (hrest (by decide)) $$ H1
    iapply Hk
    isplitr [HR]
    · isplitl [H0] <;> iassumption
    · iexact HR
  | t + 1 =>
    have e : forL (t + 1) f κ = f 0 (f 1 κ) := rfl
    rw [e]
    iapply (hstep 0 (by show 0 < min (t + 1) 1 + 1; omega) _) $$ [H0 HR]
    · isplitl [H0] <;> iassumption
    iintro ⟨H0, HR⟩
    iapply (hstep 1 (by show 1 < min (t + 1) 1 + 1; omega) _) $$ [H1 HR]
    · isplitl [H1] <;> iassumption
    iintro ⟨H1, HR⟩
    iapply Hk
    isplitr [HR]
    · isplitl [H0] <;> iassumption
    · iexact HR

theorem wp_waitsO :
    iprop((Busy d cw cb XS hh t 0 ∗ Busy d cw cb XS hh t 1) ∗ Landed d cw cb XS hh (2 * t - 1) ∗ OW d)
      ⊢ iprop((iprop((Free d (2 * (t % 2) + (0 : Fin 2).val) ∗ Free d (2 * (t % 2) + (1 : Fin 2).val)) ∗ Landed d cw cb XS hh (2 * (t + 1) - 1) ∗ OW d)
          -∗ WP defs d κ Q) -∗ WP defs d (waitsO t ht κ) Q) := by
  unfold waitsO
  iintro ⟨HB, HL, HW⟩ Hk
  iapply (wp_forL (fun l => Busy d cw cb XS hh t l) (fun l => iprop(Free d (2 * (t % 2) + l.val) ∗ Gp d cw cb XS hh t l)) (OW d)
    (fun l hl κ => ?_) (fun hl => ?_)) $$ [HB HW]
  · unfold Busy Gp
    rw [if_pos hl, if_pos hl]
    iintro ⟨Hf, HW⟩ Hk
    iapply (wp_waitO rfl rfl) $$ [Hf HW]
    · isplitl [Hf] <;> iassumption
    iintro ⟨Hf, Hp, HW⟩
    ihave Hp := (O3_val d (fun b y z _ _ _ hp => GG_part cw cb XS hh hl hp)) $$ Hp
    iapply Hk
    isplitr [HW]
    · isplitl [Hf] <;> iassumption
    · iexact HW
  · unfold Busy Gp
    rw [if_neg hl, if_neg hl]
    iintro H
    isplitl [H]; · iexact H
    iempintro
  · isplitl [HB] <;> iassumption
  iintro ⟨⟨⟨Hf0, Hg0⟩, Hf1, Hg1⟩, HW⟩
  ihave HL := Landed_join $$ [HL Hg0 Hg1]
  · isplitl [HL]; · iexact HL
    isplitl [Hg0] <;> iassumption
  iapply Hk
  isplitl [Hf0 Hf1]
  · isplitl [Hf0] <;> iassumption
  isplitl [HL] <;> iassumption

variable (d cw cb XS hh)

/-- What the epilogue of tile `t` leaves alone. -/
def Rest (t : ℕ) : sProp 𝕄 :=
  iprop(RO d cw cb XS ∗ (Slot d cw cb XS hh (t + 1) 0 ∗ Slot d cw cb XS hh (t + 1) 1) ∗ OW d)

/-- Before tile `t` is drained. -/
def Idle (t : ℕ) : sProp 𝕄 :=
  iprop((Any d (bH 0) ∗ Any d (bH 1)) ∗ (Any d (bS 0) ∗ Any d (bS 1)) ∗ (Slot d cw cb XS hh t 0 ∗ Slot d cw cb XS hh t 1)
    ∗ Pending d (2 * t - 1) ∗ Landed d cw cb XS hh (2 * (t - 2) - 1) ∗ Rest d cw cb XS hh t)

/-- Once it is. -/
def Ready (t : ℕ) : sProp 𝕄 :=
  iprop((Kn d (bH 0) (fun x => x < 1056) (hh t 0) ∗ Kn d (bH 1) (fun x => x < 1056) (hh t 1)) ∗ (Any d (bS 0) ∗ Any d (bS 1))
    ∗ (Slot d cw cb XS hh t 0 ∗ Slot d cw cb XS hh t 1)
    ∗ Pending d (2 * t - 1) ∗ Landed d cw cb XS hh (2 * (t - 2) - 1) ∗ Rest d cw cb XS hh t)

/-- Lane group `l` after `j` blocks of the tile. -/
def Ln (t j : ℕ) (l : Fin 2) : sProp 𝕄 :=
  if l.val < lanes t then iprop(Lane d cw cb XS (hh t) t l ((j + lanes t - 1 - l.val) / lanes t) ∗ sv d (73 + (2 * (t % 2) + l.val)))
  else iprop(Any d (bH l) ∗ Any d (bS l) ∗ Free d (2 * (t % 2) + l.val))

def Mids (t j : ℕ) : sProp 𝕄 :=
  iprop((Ln d cw cb XS hh t j 0 ∗ Ln d cw cb XS hh t j 1) ∗ Pending d (2 * t - 1) ∗ Landed d cw cb XS hh (2 * (t - 1) - 1) ∗ Rest d cw cb XS hh t)

/-- Before item `j` of the epilogue of tile `t`. -/
def Ep (t j : ℕ) : sProp 𝕄 :=
  if j = 0 then Ready d cw cb XS hh t else if j ≤ 16 * lanes t + 1 then Mids d cw cb XS hh t (j - 1) else Idle d cw cb XS hh (t + 1)

variable {d cw cb XS hh}

theorem item_zero : item (F := F) t ht 0 κ = bif Nat.blt t 2 then forL t (nyquist t ht) κ
    else waitsO (t - 2) (by omega) (forL t (nyquist t ht) κ) := rfl
theorem item_succ {j : ℕ} : item (F := F) t ht (j + 1) κ = bif Nat.blt j (16 * lanes t) then
      group t ht ⟨(j % lanes t) % 2, Nat.mod_lt _ (by decide)⟩ (j / lanes t % 16) (Nat.mod_lt _ (by decide)) κ
    else forL t (finish t ht) κ := rfl

theorem wp_nyqs :
    iprop((Kn d (bH 0) (fun x => x < 1056) (hh t 0) ∗ Kn d (bH 1) (fun x => x < 1056) (hh t 1)) ∗ (Any d (bS 0) ∗ Any d (bS 1))
        ∗ (Free d (2 * (t % 2) + (0 : Fin 2).val) ∗ Free d (2 * (t % 2) + (1 : Fin 2).val)) ∗ RO d cw cb XS)
      ⊢ iprop((iprop((Ln d cw cb XS hh t 0 0 ∗ Ln d cw cb XS hh t 0 1) ∗ RO d cw cb XS) -∗ WP defs d κ Q)
        -∗ WP defs d (forL t (nyquist t ht) κ) Q) := by
  iintro ⟨⟨Ha, Hb⟩, ⟨Hc, He⟩, ⟨Hf, Hg⟩, Hr⟩ Hk
  iapply (wp_forL (fun l => iprop(Kn d (bH l) (fun x => x < 1056) (hh t l) ∗ Any d (bS l) ∗ Free d (2 * (t % 2) + l.val)))
    (fun l => Ln d cw cb XS hh t 0 l) (RO d cw cb XS) (fun l hl κ => ?_) (fun hl => ?_)) $$ [Ha Hb Hc He Hf Hg Hr]
  · unfold Ln Free
    rw [if_pos hl]
    iintro ⟨⟨H, Hs, ⟨%A, Ho⟩, Hv⟩, Hr⟩ Hk
    ihave Hs := (Any_Kn (H := sb cw cb XS (hh t) t l)) $$ Hs
    ihave Ho := (KO_of (H := so cw cb XS (hh t) t l)) $$ Ho
    iapply wp_nyquist $$ [H Hs Ho Hr]
    · isplitr [Hr]
      · isplitl [H]; · iexact H
        isplitl [Hs] <;> iassumption
      · iexact Hr
    iintro ⟨H, Hr⟩
    have e : (0 + lanes t - 1 - l.val) / lanes t = 0 := Nat.div_eq_of_lt (by omega)
    rw [e]
    iapply Hk
    isplitr [Hr]
    · isplitl [H] <;> iassumption
    · iexact Hr
  · unfold Ln
    rw [if_neg hl]
    iintro ⟨H, H'⟩
    ihave H := Kn_Any $$ H
    isplitl [H] <;> iassumption
  · isplitr [Hr]
    · isplitl [Ha Hc Hf]
      · isplitl [Ha]; · iexact Ha
        isplitl [Hc] <;> iassumption
      · isplitl [Hb]; · iexact Hb
        isplitl [He] <;> iassumption
    · iexact Hr
  iexact Hk

theorem wp_item0 : Ready d cw cb XS hh t ⊢ iprop((Mids d cw cb XS hh t 0 -∗ WP defs d κ Q) -∗ WP defs d (item t ht 0 κ) Q) := by
  rw [item_zero]
  unfold Ready Mids Rest
  iintro ⟨HH, HS, HL, HP, HD, Hr, HN, HW⟩ Hk
  unfold Slot
  by_cases h2 : t < 2
  · have hb : Nat.blt t 2 = true := by rw [Nat.blt_eq]; exact h2
    rw [hb, cond_true, if_pos h2]
    rw [show 2 * (t - 2) - 1 = 2 * (t - 1) - 1 by omega, if_pos h2]
    iapply wp_nyqs $$ [HH HS HL Hr]
    · isplitl [HH]; · iexact HH
      isplitl [HS]; · iexact HS
      isplitl [HL] <;> iassumption
    iintro ⟨HN', Hr⟩
    iapply Hk
    isplitl [HN']; · iexact HN'
    isplitl [HP]; · iexact HP
    isplitl [HD]; · iexact HD
    isplitl [Hr]; · iexact Hr
    isplitl [HN] <;> iassumption
  · have hb : Nat.blt t 2 = false := by rw [← Bool.not_eq_true, Nat.blt_eq]; exact h2
    rw [hb, cond_false, if_neg h2, if_neg h2]
    iapply wp_waitsO $$ [HL HD HW]
    · isplitl [HL]; · iexact HL
      isplitl [HD] <;> iassumption
    rw [show (t - 2) % 2 = t % 2 by omega, show 2 * (t - 2 + 1) - 1 = 2 * (t - 1) - 1 by omega]
    iintro ⟨HL, HD, HW⟩
    iapply wp_nyqs $$ [HH HS HL Hr]
    · isplitl [HH]; · iexact HH
      isplitl [HS]; · iexact HS
      isplitl [HL] <;> iassumption
    iintro ⟨HN', Hr⟩
    iapply Hk
    isplitl [HN']; · iexact HN'
    isplitl [HP]; · iexact HP
    isplitl [HD]; · iexact HD
    isplitl [Hr]; · iexact Hr
    isplitl [HN] <;> iassumption

theorem wp_itemG {j : ℕ} (hj : j < 16 * lanes t) :
    Mids d cw cb XS hh t j ⊢ iprop((Mids d cw cb XS hh t (j + 1) -∗ WP defs d κ Q) -∗ WP defs d (item t ht (j + 1) κ) Q) := by
  rw [item_succ]
  have hb : Nat.blt j (16 * lanes t) = true := by rw [Nat.blt_eq]; exact hj
  rw [hb, cond_true]
  unfold Mids Rest
  have hL : lanes t = 1 ∨ lanes t = 2 := by unfold lanes; omega
  have h0 : (0 : Fin 2).val < lanes t := by show 0 < lanes t; omega
  have hv0 : ∀ n, n < 2 → n = 0 → ∀ h : n < 2, (⟨n, h⟩ : Fin 2) = 0 := fun n _ e h => Fin.ext e
  by_cases he : j % lanes t = 0
  · have e0 : (⟨(j % lanes t) % 2, Nat.mod_lt _ (by decide)⟩ : Fin 2) = 0 := Fin.ext (by show j % lanes t % 2 = 0; rw [he])
    rw [e0]
    have g0 : (j + lanes t - 1 - (0 : Fin 2).val) / lanes t = j / lanes t % 16 := by
      show (j + lanes t - 1 - 0) / lanes t = j / lanes t % 16
      rcases hL with h | h <;> rw [h] at he hj ⊢ <;> omega
    have g1 : (j + 1 + lanes t - 1 - (0 : Fin 2).val) / lanes t = j / lanes t % 16 + 1 := by
      show (j + 1 + lanes t - 1 - 0) / lanes t = j / lanes t % 16 + 1
      rcases hL with h | h <;> rw [h] at he hj ⊢ <;> omega
    have k1 : Ln d cw cb XS hh t j 1 = (Ln d cw cb XS hh t (j + 1) 1 : sProp 𝕄) := by
      unfold Ln
      by_cases h1 : (1 : Fin 2).val < lanes t
      · have h2 : lanes t = 2 := by
          rcases hL with h | h
          · rw [h] at h1; exact absurd h1 (by decide)
          · exact h
        rw [if_pos h1, if_pos h1]
        have : (j + lanes t - 1 - (1 : Fin 2).val) / lanes t = (j + 1 + lanes t - 1 - (1 : Fin 2).val) / lanes t := by
          show (j + lanes t - 1 - 1) / lanes t = (j + 1 + lanes t - 1 - 1) / lanes t
          rw [h2] at he ⊢; omega
        rw [this]
      · rw [if_neg h1, if_neg h1]
    rw [k1]
    have k0 : Ln d cw cb XS hh t j 0 = (iprop(Lane d cw cb XS (hh t) t 0 (j / lanes t % 16) ∗ sv d (73 + (2 * (t % 2) + (0 : Fin 2).val))) : sProp 𝕄) := by
      unfold Ln; rw [if_pos h0, g0]
    have k0' : Ln d cw cb XS hh t (j + 1) 0 = (iprop(Lane d cw cb XS (hh t) t 0 (j / lanes t % 16 + 1) ∗ sv d (73 + (2 * (t % 2) + (0 : Fin 2).val))) : sProp 𝕄) := by
      unfold Ln; rw [if_pos h0, g1]
    rw [k0, k0']
    iintro ⟨⟨⟨H0, Hv⟩, H1⟩, HP, HD, Hr, HN, HW⟩ Hk
    iapply wp_group $$ [H0 Hr]
    · isplitl [H0] <;> iassumption
    iintro ⟨H0, Hr⟩
    iapply Hk
    isplitl [H0 H1 Hv]
    · isplitr [H1]
      · isplitl [H0] <;> iassumption
      · iexact H1
    isplitl [HP]; · iexact HP
    isplitl [HD]; · iexact HD
    isplitl [Hr]; · iexact Hr
    isplitl [HN] <;> iassumption
  · have h2 : lanes t = 2 := by
      rcases hL with h | h
      · rw [h] at he; omega
      · exact h
    have h1 : (1 : Fin 2).val < lanes t := by rw [h2]; decide
    have e1 : (⟨(j % lanes t) % 2, Nat.mod_lt _ (by decide)⟩ : Fin 2) = 1 := Fin.ext (by
      show j % lanes t % 2 = 1
      rw [h2] at he ⊢; omega)
    rw [e1]
    have k0 : Ln d cw cb XS hh t j 0 = (Ln d cw cb XS hh t (j + 1) 0 : sProp 𝕄) := by
      unfold Ln
      rw [if_pos h0, if_pos h0]
      have : (j + lanes t - 1 - (0 : Fin 2).val) / lanes t = (j + 1 + lanes t - 1 - (0 : Fin 2).val) / lanes t := by
        show (j + lanes t - 1 - 0) / lanes t = (j + 1 + lanes t - 1 - 0) / lanes t
        rw [h2] at he ⊢; omega
      rw [this]
    have g1 : (j + lanes t - 1 - (1 : Fin 2).val) / lanes t = j / lanes t % 16 := by
      show (j + lanes t - 1 - 1) / lanes t = j / lanes t % 16
      rw [h2] at he hj ⊢; omega
    have g1' : (j + 1 + lanes t - 1 - (1 : Fin 2).val) / lanes t = j / lanes t % 16 + 1 := by
      show (j + 1 + lanes t - 1 - 1) / lanes t = j / lanes t % 16 + 1
      rw [h2] at he hj ⊢; omega
    have k1 : Ln d cw cb XS hh t j 1 = (iprop(Lane d cw cb XS (hh t) t 1 (j / lanes t % 16) ∗ sv d (73 + (2 * (t % 2) + (1 : Fin 2).val))) : sProp 𝕄) := by
      unfold Ln; rw [if_pos h1, g1]
    have k1' : Ln d cw cb XS hh t (j + 1) 1 = (iprop(Lane d cw cb XS (hh t) t 1 (j / lanes t % 16 + 1) ∗ sv d (73 + (2 * (t % 2) + (1 : Fin 2).val))) : sProp 𝕄) := by
      unfold Ln; rw [if_pos h1, g1']
    rw [k0, k1, k1']
    iintro ⟨⟨H0, H1, Hv⟩, HP, HD, Hr, HN, HW⟩ Hk
    iapply wp_group $$ [H1 Hr]
    · isplitl [H1] <;> iassumption
    iintro ⟨H1, Hr⟩
    iapply Hk
    isplitl [H0 H1 Hv]
    · isplitl [H0]; · iexact H0
      isplitl [H1] <;> iassumption
    isplitl [HP]; · iexact HP
    isplitl [HD]; · iexact HD
    isplitl [Hr]; · iexact Hr
    isplitl [HN] <;> iassumption

theorem wp_itemF :
    Mids d cw cb XS hh t (16 * lanes t)
      ⊢ iprop((Idle d cw cb XS hh (t + 1) -∗ WP defs d κ Q) -∗ WP defs d (item t ht (16 * lanes t + 1) κ) Q) := by
  rw [item_succ]
  have hb : Nat.blt (16 * lanes t) (16 * lanes t) = false := by rw [← Bool.not_eq_true, Nat.blt_eq]; exact Nat.lt_irrefl _
  rw [hb, cond_false]
  unfold Mids Idle Rest
  iintro ⟨⟨H0, H1⟩, HP, HD, Hr, HN, HW⟩ Hk
  ihave HP := Pending_split $$ HP
  icases HP with ⟨⟨HP0, HP1⟩, HP⟩
  iapply (wp_forL (fun l => iprop(Ln d cw cb XS hh t (16 * lanes t) l ∗ Pp d t l))
    (fun l => iprop(Any d (bH l) ∗ Any d (bS l) ∗ Busy d cw cb XS hh t l)) iprop(emp) (fun l hl κ => ?_) (fun hl => ?_)) $$ [H0 H1 HP0 HP1]
  · unfold Ln Pp Busy
    rw [if_pos hl, if_pos hl, if_pos hl]
    have e : (16 * lanes t + lanes t - 1 - l.val) / lanes t = 16 := by
      have hL : lanes t = 1 ∨ lanes t = 2 := by unfold lanes; omega
      rcases hL with h | h <;> rw [h] at hl ⊢ <;> omega
    rw [e]
    iintro ⟨⟨⟨H, Hv⟩, HP⟩, -⟩ Hk
    iapply wp_finish' $$ H
    iintro ⟨H, Hs, Ho⟩
    iapply (wp_startO rfl rfl) $$ [Ho HP Hv]
    · isplitl [Ho]; · iexact Ho
      isplitl [HP] <;> iassumption
    iintro Hf
    ihave H := Kn_Any $$ H
    ihave Hs := Kn_Any $$ Hs
    iapply Hk
    isplitl
    · isplitl [H]; · iexact H
      isplitl [Hs] <;> iassumption
    · iempintro
  · unfold Ln Pp Busy
    rw [if_neg hl, if_neg hl, if_neg hl]
    iintro ⟨H, -⟩
    iexact H
  · isplitl
    · isplitl [H0 HP0]
      · isplitl [H0] <;> iassumption
      · isplitl [H1] <;> iassumption
    · iempintro
  iintro ⟨⟨⟨H0, Hs0, Hb0⟩, H1, Hs1, Hb1⟩, -⟩
  iapply Hk
  isplitl [H0 H1]
  · isplitl [H0] <;> iassumption
  isplitl [Hs0 Hs1]
  · isplitl [Hs0] <;> iassumption
  isplitl [HN]; · iexact HN
  isplitl [HP]; · iexact HP
  rw [show t + 1 - 2 = t - 1 by omega]
  isplitl [HD]; · iexact HD
  isplitl [Hr]; · iexact Hr
  isplitr [HW]
  · unfold Slot
    rw [if_neg (show ¬t + 1 + 1 < 2 by omega), if_neg (show ¬t + 1 + 1 < 2 by omega)]
    rw [show t + 1 + 1 - 2 = t by omega]
    isplitl [Hb0] <;> iassumption
  · iexact HW

theorem wp_item {j : ℕ} (hj : j < nItems t) :
    Ep d cw cb XS hh t j ⊢ iprop((Ep d cw cb XS hh t (j + 1) -∗ WP defs d κ Q) -∗ WP defs d (item t ht j κ) Q) := by
  unfold nItems at hj
  unfold Ep
  rw [if_neg (Nat.succ_ne_zero j), Nat.add_sub_cancel]
  by_cases h0 : j = 0
  · subst h0
    rw [if_pos rfl, if_pos (by omega)]
    exact wp_item0
  · obtain ⟨j, rfl⟩ : ∃ i, j = i + 1 := ⟨j - 1, by omega⟩
    rw [if_neg h0, if_pos (by omega), Nat.add_sub_cancel]
    by_cases h1 : j < 16 * lanes t
    · rw [if_pos (by omega)]
      exact wp_itemG h1
    · obtain rfl : j = 16 * lanes t := by omega
      rw [if_neg (by omega)]
      exact wp_itemF

theorem wp_items : ∀ (n j : ℕ), j + n ≤ nItems t → ∀ κ : Pg F α,
    Ep d cw cb XS hh t j ⊢ iprop((Ep d cw cb XS hh t (j + n) -∗ WP defs d κ Q) -∗ WP defs d (items t ht n j κ) Q)
  | 0, j, h, κ => by
    have e : items t ht 0 j κ = κ := rfl
    rw [e]
    iintro H Hk
    iapply Hk $$ H
  | n + 1, j, h, κ => by
    have e : items t ht (n + 1) j κ = item t ht j (items t ht n (j + 1) κ) := rfl
    rw [e, show j + (n + 1) = j + 1 + n by omega]
    iintro H Hk
    iapply (wp_item (by omega)) $$ H
    iintro H
    iapply (wp_items n (j + 1) (by omega) κ) $$ H
    iexact Hk

end Cert.KernelIdeal
-- ==== Proof.Pro.lean ====
/- The copies in, and the two columns. -/
module

public import proofs.«01_k».proof.Proof.Epi
public import proofs.«01_k».proof.Proof.Items

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx
open Shapes1.Facts₀ Shapes2.Facts₀ K0.Facts₀ Facts₀ Facts

variable {F : FTy → Type} [FloatOps F] [Facts]

local notation "𝕄" => MT nD τ sig Unit (Elt F) ℕ (Pipeline.UD sig nD τ) ℕ

/-! ## The three families -/

def famW : Fam where
  N := 24
  S x _ := x < 1024
  ρ _ y := y / 256
  sem := semW
  r _ := 0
  c k := 256 * k
  a _ := 1024
  b _ := 256
  rect_iff i hi x y := by unfold rect; omega

def famX : Fam where
  N := 24
  S x _ := x < 256
  ρ _ y := y / 256
  sem := semX
  r _ := 0
  c k := 256 * k
  a _ := 256
  b _ := 256
  rect_iff i hi x y := by unfold rect; omega

def famT : Fam where
  N := 21
  S x y := 256 ≤ x ∧ x < 1920 ∧ y < 6144
  ρ x y := 3 * ((x + 128) / 256 - 1) + y / 2048
  sem n := 52 + 3 * (n / 3 + 1 - 1) + n % 3
  r n := loT (n / 3 + 1)
  c n := 2048 * (n % 3)
  a n := 256 * (n / 3 + 1) + 128 - loT (n / 3 + 1)
  b _ := 2048
  rect_iff i hi x y := by
    unfold rect loT
    have h1 : i = 3 * (i / 3) + i % 3 := by omega
    generalize i / 3 = t at *
    generalize hj : i % 3 = j at *
    have hj3 : j < 3 := by omega
    subst h1
    rcases Nat.eq_zero_or_pos t with h0 | h0
    · subst h0
      rw [show max (256 * (0 + 1) - 128) 256 = 256 by decide]
      omega
    · rw [show max (256 * (t + 1) - 128) 256 = 256 * (t + 1) - 128 by omega]
      omega

variable (d : Dev nD) (X Wb : ℕ → ℕ → Elt F .fp8e4m3) (XS : ℕ → ℕ → Elt F .f32) (ws bb : ℕ → Elt F .f32)

def Any1 (m : Memref sig .tc .vmem S1026 .f32) : sProp 𝕄 := iprop(∃ A : ℕ → Elt F .f32, O1 d m A)

/-- What the kernel copies from, but for the codes. -/
def Src : sProp 𝕄 := iprop(O2 d aXs T2 XS ∗ O1 d aWs ws ∗ O1 d aB bb)

/-- The rows of the weights past the staged ones. -/
def tail : ℕ → ℕ → Prop := fun x _ => 1024 ≤ x

/-- The cells of the copies in. -/
def SemIn : sProp 𝕄 :=
  iprop((sv d 0 ∗ sv d 5 ∗ sv d 6 ∗ sv d 7) ∗ bigSep (Finset.Ico 0 24) (fun n => sv d (semW n))
    ∗ bigSep (Finset.Ico 0 24) (fun n => sv d (semX n)) ∗ bigSep (Finset.Ico 0 21) (fun n => sv d (52 + 3 * (n / 3 + 1 - 1) + n % 3)))

/-- Before the prologue. -/
def Pre0 : sProp 𝕄 :=
  iprop((O2 d aX T2 X ∗ O2 d aWt T2 Wb ∗ Src d XS ws bb)
    ∗ (Any d bX ∗ (∃ J : ℕ → ℕ → Elt F .fp8e4m3, ⌜∀ x y, 1032 ≤ x → x < 1056 → y < 6144 → J x y = Wb x y⌝ ∗ O2 d bW T2 J))
    ∗ (Any d bXs ∗ Any1 d bWs ∗ Any1 d bB ∗ Any d cW ∗ Any d cB) ∗ SemIn d ∗ OW d)

/-- After it. -/
def Post0 : sProp 𝕄 :=
  iprop((Land d aWt bW famW Wb 0 ∗ Land d aX bX famX X 0 ∗ Land d aX bX famT X 0)
    ∗ (O2 d aWt tail Wb ∗ O2 d bW tail Wb) ∗ Src d XS ws bb
    ∗ (Any1 d bWs ∗ Any1 d bB) ∗ RO d (colOf ws) (colOf bb) XS ∗ (sv d 0 ∗ sv d 5 ∗ sv d 6 ∗ sv d 7) ∗ OW d)

variable {d X Wb XS ws bb}
variable {defs : Defs nD τ sig (Elt F) Λ₀} {α : Type} {Q : α → sProp (MT nD τ sig Unit (Elt F) ℕ (Pipeline.UD sig nD τ) ℕ)}
variable {κ : Pg F α} {J : ℕ → ℕ → Elt F .fp8e4m3}

theorem slTail_eq (i : grid0.Coords) : slTail i = sl2 aWt 1024 0 8 6144 (by decide) (by decide) := by
  have h : ∀ (off : Fin 2 → ℕ) (e : off = ![1024, 0]) (hi : ∀ a, off a + S8x6144.size a ≤ S1032x6144.size a),
      aWt.slice (Rect.unit (s := S1032x6144) off S8x6144.size hi) (fun _ => rfl) = sl2 aWt 1024 0 8 6144 (by decide) (by decide) := by
    intro off e hi
    subst e
    rfl
  exact h (k0_off1 i) (by revert i; decide +kernel) (k0_off1_inb i)

theorem wp_startTail {i : grid0.Coords} :
    iprop(O2 d aWt (rect 1024 0 8 6144) Wb ∗ O2 d bW (rect 1024 0 8 6144) J ∗ sv d 0)
      ⊢ iprop((Fl2 d aWt bW 0 1024 0 8 6144 Wb -∗ WP defs d κ Q) -∗ WP defs d (startTail i κ) Q) := by
  unfold startTail
  iintro ⟨H1, H2, Hv⟩ Hk
  have h1 : O2 d aWt (rect 1024 0 8 6144) Wb ⊢ (own (d : Thread nD τ) (slTail i) (fun _ => True)
      (fun j => Wb (1024 + 1 * (j (0 : Fin 2)).val) (0 + 1 * (j (1 : Fin 2)).val)) : sProp 𝕄) := by
    rw [slTail_eq]; exact O2_slice d (by decide) (by decide)
  have h1' : (own (d : Thread nD τ) (slTail i) (fun _ => True)
      (fun j => Wb (1024 + 1 * (j (0 : Fin 2)).val) (0 + 1 * (j (1 : Fin 2)).val)) : sProp 𝕄) ⊢ O2 d aWt (rect 1024 0 8 6144) Wb := by
    rw [slTail_eq]; exact O2_unslice d (by decide) (by decide)
  ihave H1 := h1 $$ H1
  have h2 : O2 d bW (rect 1024 0 8 6144) J ⊢ (own (d : Thread nD τ) (sl2 bW 1024 0 8 6144 (by decide) (by decide)) (fun _ => True)
      (fun j => J (1024 + 1 * (j (0 : Fin 2)).val) (0 + 1 * (j (1 : Fin 2)).val)) : sProp 𝕄) := O2_slice d _ _
  ihave H2 := h2 $$ H2
  iapply (wp_start d (src := slTail i) (dst := sl2 bW 1024 0 8 6144 _ _)
    (φ := fun j => Wb (1024 + 1 * (j (0 : Fin 2)).val) (0 + 1 * (j (1 : Fin 2)).val))
    (ψ := fun j => J (1024 + 1 * (j (0 : Fin 2)).val) (0 + 1 * (j (1 : Fin 2)).val)) (iC_cell _ _) (by decide)) $$ [H1 H2 Hv]
  · isplitl [H1]; · iexact H1
    isplitl [H2]; · iexact H2
    iexact Hv
  iintro Hf
  iapply Hk
  unfold Fl2
  iexists (sl2 bW 1024 0 8 6144 (by decide) (by decide)).view.dmaCredit
  isplitr
  · ipureintro; exact fun _ _ => rfl
  have hD : iprop(own (d : Thread nD τ) (slTail i) (fun _ => True)
        (fun j => Wb (1024 + 1 * (j (0 : Fin 2)).val) (0 + 1 * (j (1 : Fin 2)).val))
      ∗ own (d : Thread nD τ) (sl2 bW 1024 0 8 6144 (by decide) (by decide)) (fun _ => True)
        (fun j => Wb (1024 + 1 * (j (0 : Fin 2)).val) (0 + 1 * (j (1 : Fin 2)).val)))
      ⊢ iprop(O2 d aWt (rect 1024 0 8 6144) Wb ∗ O2 d bW (rect 1024 0 8 6144) Wb : sProp 𝕄) := by
    iintro ⟨H1, H2⟩
    isplitl [H1]
    · iapply h1' $$ H1
    · iapply (O2_unslice d _ _) $$ H2
  iapply (Fly_mono d hD) $$ Hf

theorem wp_waitTail {i : grid0.Coords} :
    iprop(Fl2 d aWt bW 0 1024 0 8 6144 Wb ∗ OW d)
      ⊢ iprop((iprop(O2 d aWt (rect 1024 0 8 6144) Wb ∗ O2 d bW (rect 1024 0 8 6144) Wb ∗ sv d 0 ∗ OW d) -∗ WP defs d κ Q)
        -∗ WP defs d (waitTail i κ) Q) := by
  unfold waitTail Fl2
  iintro ⟨⟨%N, %hN, Hf⟩, HW⟩ Hk
  iapply (wp_wait d (src := slTail i) (dst := sl2 bW 1024 0 8 6144 _ _) (iC_cell _ _)
    (hsrc := (Memref.isWhole_whole _).wordExact_slice rfl _ (k0_off1_wordsfp8e4m3 i))
    (hdst := (Memref.isWhole_whole _).wordExact_slice rfl _ (.inl (rows2 _ (show 4 ∣ _ by decide) (show 4 ∣ _ by decide))))
    (hN _ _)) $$ [Hf HW]
  · isplitl [Hf] <;> iassumption
  iintro ⟨⟨H1, H2⟩, Hv, HW⟩
  iapply Hk
  isplitl [H1]; · iexact H1
  isplitl [H2]; · iexact H2
  isplitl [Hv] <;> iassumption

theorem wp_startWX {k : ℕ} {hk : k < 24} {J' : ℕ → ℕ → Elt F .fp8e4m3} :
    iprop(Pend d aWt bW famW Wb J k ∗ Pend d aX bX famX X J' k)
      ⊢ iprop((iprop(Pend d aWt bW famW Wb J (k + 1) ∗ Pend d aX bX famX X J' (k + 1)) -∗ WP defs d κ Q)
        -∗ WP defs d (startWX k hk κ) Q) := by
  unfold startWX startW startX
  iintro ⟨H1, H2⟩ Hk
  iapply (wp_pend d (f := famW) (r := 0) (c := 256 * k) (a := 1024) (b := 256) hk ⟨rfl, rfl, rfl, rfl⟩ (iC_cell _ _) (by decide)) $$ H1
  iintro H1
  iapply (wp_pend d (f := famX) (r := 0) (c := 256 * k) (a := 256) (b := 256) hk ⟨rfl, rfl, rfl, rfl⟩ (iC_cell _ _) (by decide)) $$ H2
  iintro H2
  iapply Hk
  isplitl [H1] <;> iassumption

theorem wp_startXT {n : ℕ} {hn : n < 21} {h1 : n / 3 + 1 < 8} {h2 : 1 ≤ n / 3 + 1} {h3 : n % 3 < 3} {J' : ℕ → ℕ → Elt F .fp8e4m3} :
    Pend d aX bX famT X J' n
      ⊢ iprop((Pend d aX bX famT X J' (n + 1) -∗ WP defs d κ Q) -∗ WP defs d (startXT (n / 3 + 1) (n % 3) h1 h2 h3 κ) Q) := by
  unfold startXT startX
  exact wp_pend d (f := famT) (r := loT (n / 3 + 1)) (c := 2048 * (n % 3)) (a := 256 * (n / 3 + 1) + 128 - loT (n / 3 + 1)) (b := 2048) hn ⟨rfl, rfl, rfl, rfl⟩ (iC_cell _ _) (by
    show 0 < (256 * (n / 3 + 1) + 128 - loT (n / 3 + 1)) * (2048 * 1)
    exact Nat.mul_pos (by unfold loT; omega) (by decide))

section
variable {A : ℕ → Elt F .f32}

/-- The flight of a whole vector. -/
def Fl1 (d : Dev nD) (m₁ : Memref sig .tc .hbm S1026 .f32) (m₂ : Memref sig .tc .vmem S1026 .f32) (n : ℕ) (A : ℕ → Elt F .f32) : sProp 𝕄 :=
  Fly d n m₂.view.dmaCredit iprop(O1 d m₁ A ∗ O1 d m₂ A)

theorem wp_startV {m₁ : Memref sig .tc .hbm S1026 .f32} {m₂ : Memref sig .tc .vmem S1026 .f32} {sm : DmaSem sig} {n : ℕ} (hsm : sm = cell n)
    {hsrc : m₁.view.WordExact} {hdst : m₂.view.WordExact} {hsem : DmaTarget.Typed (nD := nD) (p := (.tc : Proc τ)) .hbm (.dma sm) (.here m₂)} :
    iprop(O1 d m₁ A ∗ Any1 d m₂ ∗ sv d n) ⊢ iprop((Fl1 d m₁ m₂ n A -∗ WP defs d κ Q)
      -∗ WP defs d (.op (.enqueueDma m₁ (.here m₂) (.dma sm) hsrc hdst hsem) fun _ => κ) Q) := by
  unfold Any1 Fl1 O1
  iintro ⟨H1, ⟨%B, H2⟩, Hv⟩ Hk
  iapply (wp_start d (src := m₁) (dst := m₂) (φ := fun x => A (x (0 : Fin 1)).val) (ψ := fun x => B (x (0 : Fin 1)).val) hsm (by decide)) $$ [H1 H2 Hv]
  · isplitl [H1]; · iexact H1
    isplitl [H2]; · iexact H2
    iexact Hv
  iexact Hk

theorem wp_waitV {m₁ : Memref sig .tc .hbm S1026 .f32} {m₂ : Memref sig .tc .vmem S1026 .f32} {sm : DmaSem sig} {n : ℕ} (hsm : sm = cell n)
    {hsrc : m₁.view.WordExact} {hdst : m₂.view.WordExact} :
    iprop(Fl1 d m₁ m₂ n A ∗ OW d) ⊢ iprop((iprop(O1 d m₁ A ∗ O1 d m₂ A ∗ sv d n ∗ OW d) -∗ WP defs d κ Q)
      -∗ WP defs d (.op (.waitDma2 sm m₁ m₂ hsrc hdst) fun _ => κ) Q) := by
  unfold Fl1
  iintro H Hk
  iapply (wp_wait d (src := m₁) (dst := m₂) hsm rfl) $$ H
  iintro ⟨⟨H1, H2⟩, H⟩
  iapply Hk
  isplitl [H1]; · iexact H1
  isplitl [H2] <;> iassumption
end

/-- The flight of the scales. -/
def FlS (d : Dev nD) (A : ℕ → ℕ → Elt F .f32) : sProp 𝕄 := Fly d 7 bXs.view.dmaCredit iprop(O2 d aXs T2 A ∗ O2 d bXs T2 A)

theorem wp_startXs : iprop(O2 d aXs T2 XS ∗ Any d bXs ∗ sv d 7) ⊢ iprop((FlS d XS -∗ WP defs d κ Q) -∗ WP defs d (startXs κ) Q) := by
  unfold Any FlS O2 startXs
  iintro ⟨H1, ⟨%B, H2⟩, Hv⟩ Hk
  iapply (wp_start d (src := aXs) (dst := bXs) (φ := fun x => XS (x (0 : Fin 2)).val (x (1 : Fin 2)).val)
    (ψ := fun x => B (x (0 : Fin 2)).val (x (1 : Fin 2)).val) (iC_cell _ _) (by decide)) $$ [H1 H2 Hv]
  · isplitl [H1]; · iexact H1
    isplitl [H2]; · iexact H2
    iexact Hv
  iexact Hk

theorem wp_waitXs : iprop(FlS d XS ∗ OW d)
    ⊢ iprop((iprop(O2 d aXs T2 XS ∗ O2 d bXs T2 XS ∗ sv d 7 ∗ OW d) -∗ WP defs d κ Q) -∗ WP defs d (waitXs κ) Q) := by
  unfold FlS waitXs
  iintro H Hk
  iapply (wp_wait d (src := aXs) (dst := bXs) (iC_cell _ _) rfl) $$ H
  iintro ⟨⟨H1, H2⟩, H⟩
  iapply Hk
  isplitl [H1]; · iexact H1
  isplitl [H2] <;> iassumption

theorem wp_prologue {i : grid0.Coords} :
    Pre0 d X Wb XS ws bb ⊢ iprop((Post0 d X Wb XS ws bb -∗ WP defs d κ Q) -∗ WP defs d (prologue i κ) Q) := by
  have hAny : Any d bX ⊢ (iprop(∃ A : ℕ → ℕ → Elt F .fp8e4m3, O2 d bX T2 A) : sProp 𝕄) := .rfl
  unfold Pre0 Src SemIn prologue
  iintro ⟨⟨HX, HW, HXs, HWs, HB⟩, ⟨HbX, %JW, %hJ, HbW⟩, ⟨HbXs, HbWs, HbB, HcW, HcB⟩, ⟨⟨Hv0, Hv5, Hv6, Hv7⟩, HvW, HvX, HvT⟩, HO⟩ Hk
  ihave HbX := hAny $$ HbX
  icases HbX with ⟨%JX, HbX⟩
  -- the weights: the staged rows and the tail
  ihave HW := (O2_split d (P₁ := famW.S) (P₂ := rect 1024 0 8 6144)
    (fun x y hx hy => by show _ ↔ x < 1024 ∨ _; unfold rect; constructor
                         · intro _; omega
                         · intro _; trivial)
    (fun x y hx hy h h' => by change x < 1024 at h; unfold rect at h'; omega)) $$ HW
  icases HW with ⟨HW, HWt⟩
  ihave HbW := (O2_split d (P₁ := famW.S) (P₂ := tail)
    (fun x y hx hy => by show _ ↔ x < 1024 ∨ 1024 ≤ x; constructor
                         · intro _; omega
                         · intro _; trivial)
    (fun x y hx hy h h' => by change x < 1024 at h; change 1024 ≤ x at h'; omega)) $$ HbW
  icases HbW with ⟨HbW, HbT⟩
  ihave HbT := (O2_split d (P₁ := rect 1024 0 8 6144) (P₂ := fun x _ => 1032 ≤ x)
    (fun x y hx hy => by show 1024 ≤ x ↔ _; unfold rect; omega)
    (fun x y hx hy h h' => by unfold rect at h; omega)) $$ HbT
  icases HbT with ⟨HbT, HbJ⟩
  ihave HbJ := (O2_val d (B := Wb) (fun x y hx hy h => hJ x y h hx hy)) $$ HbJ
  iapply wp_startTail $$ [HWt HbT Hv0]
  · isplitl [HWt]; · iexact HWt
    isplitl [HbT] <;> iassumption
  iintro HFt
  -- the activations
  ihave HX := (O2_split d (P₁ := famX.S) (P₂ := famT.S)
    (fun x y hx hy => by show _ ↔ x < 256 ∨ (256 ≤ x ∧ x < 1920 ∧ y < 6144); constructor
                         · intro _; omega
                         · intro _; trivial)
    (fun x y hx hy h h' => by change x < 256 at h; change 256 ≤ x ∧ _ at h'; omega)) $$ HX
  icases HX with ⟨HX, HXT⟩
  ihave HbX := (O2_split d (P₁ := famX.S) (P₂ := famT.S)
    (fun x y hx hy => by show _ ↔ x < 256 ∨ (256 ≤ x ∧ x < 1920 ∧ y < 6144); constructor
                         · intro _; omega
                         · intro _; trivial)
    (fun x y hx hy h h' => by change x < 256 at h; change 256 ≤ x ∧ _ at h'; omega)) $$ HbX
  icases HbX with ⟨HbX, HbXT⟩
  ihave HFW := (Pend_zero d (m₁ := aWt) (m₂ := bW) (f := famW) (A := Wb) (J := JW)) $$ [HW HbW HvW]
  · isplitl [HW]; · iexact HW
    isplitl [HbW]; · iexact HbW
    iexact HvW
  ihave HFX := (Pend_zero d (m₁ := aX) (m₂ := bX) (f := famX) (A := X) (J := JX)) $$ [HX HbX HvX]
  · isplitl [HX]; · iexact HX
    isplitl [HbX]; · iexact HbX
    iexact HvX
  ihave HFT := (Pend_zero d (m₁ := aX) (m₂ := bX) (f := famT) (A := X) (J := JX)) $$ [HXT HbXT HvT]
  · isplitl [HXT]; · iexact HXT
    isplitl [HbXT]; · iexact HbXT
    iexact HvT
  iapply (wp_forU d (fun k => iprop(Pend d aWt bW famW Wb JW k ∗ Pend d aX bX famX X JX k)) (fun k hk κ => wp_startWX) 2 0 rfl _) $$ [HFW HFX]
  · isplitl [HFW] <;> iassumption
  iintro HFWX
  iapply (wp_startV (iC_cell _ _)) $$ [HWs HbWs Hv5]
  · isplitl [HWs]; · iexact HWs
    isplitl [HbWs] <;> iassumption
  iintro HF5
  iapply (wp_startV (iC_cell _ _)) $$ [HB HbB Hv6]
  · isplitl [HB]; · iexact HB
    isplitl [HbB] <;> iassumption
  iintro HF6
  iapply wp_startXs $$ [HXs HbXs Hv7]
  · isplitl [HXs]; · iexact HXs
    isplitl [HbXs] <;> iassumption
  iintro HF7
  iapply (wp_forU d (fun k => iprop(Pend d aWt bW famW Wb JW k ∗ Pend d aX bX famX X JX k)) (fun k hk κ => wp_startWX) 22 2 rfl _) $$ HFWX
  iintro ⟨HFW, HFX⟩
  iapply (wp_forU d (fun n => Pend d aX bX famT X JX n) (fun n hn κ => wp_startXT (hn := hn)) 21 0 rfl _) $$ HFT
  iintro HFT
  iapply (wp_waitV (iC_cell _ _)) $$ [HF5 HO]
  · isplitl [HF5] <;> iassumption
  iintro ⟨HWs, HbWs, Hv5, HO⟩
  iapply (wp_waitV (iC_cell _ _)) $$ [HF6 HO]
  · isplitl [HF6] <;> iassumption
  iintro ⟨HB, HbB, Hv6, HO⟩
  iapply wp_waitXs $$ [HF7 HO]
  · isplitl [HF7] <;> iassumption
  iintro ⟨HXs, HbXs, Hv7, HO⟩
  ihave HcW := (Any_Kn (H := colOf ws)) $$ HcW
  ihave HcB := (Any_Kn (H := colOf bb)) $$ HcB
  iapply wp_column $$ [HbWs HcW]
  · isplitl [HbWs] <;> iassumption
  iintro ⟨HbWs, HcW⟩
  iapply wp_column $$ [HbB HcB]
  · isplitl [HbB] <;> iassumption
  iintro ⟨HbB, HcB⟩
  iapply wp_waitTail $$ [HFt HO]
  · isplitl [HFt] <;> iassumption
  iintro ⟨HWt, HbT, Hv0, HO⟩
  have hW : Pend d aWt bW famW Wb JW (2 + 22) ⊢ (Land d aWt bW famW Wb 0 : sProp 𝕄) :=
    Pend_last d (f := famW) (fun x y _ hy _ => by show y / 256 < 24; omega) (fun x y _ hy _ => by show y / 256 < 24; omega)
  have hX : Pend d aX bX famX X JX (2 + 22) ⊢ (Land d aX bX famX X 0 : sProp 𝕄) :=
    Pend_last d (f := famX) (fun x y _ hy _ => by show y / 256 < 24; omega) (fun x y _ hy _ => by show y / 256 < 24; omega)
  have hT : Pend d aX bX famT X JX (0 + 21) ⊢ (Land d aX bX famT X 0 : sProp 𝕄) :=
    Pend_last d (f := famT) (fun x y hx hy _ => by show 3 * ((x + 128) / 256 - 1) + y / 2048 < 21; omega)
      (fun x y hx hy _ => by show 3 * ((x + 128) / 256 - 1) + y / 2048 < 21; omega)
  ihave HFW := hW $$ HFW
  ihave HFX := hX $$ HFX
  ihave HFT := hT $$ HFT
  ihave HWt := (O2_iff d (P₁ := tail) (fun x y hx hy => by show _ ↔ 1024 ≤ x; unfold rect; omega)) $$ HWt
  have hJ : iprop(O2 d bW (rect 1024 0 8 6144) Wb ∗ O2 d bW (fun x _ => 1032 ≤ x) Wb) ⊢ (O2 d bW tail Wb : sProp 𝕄) :=
    O2_join d (fun x y hx hy => by show 1024 ≤ x ↔ _ ∨ 1032 ≤ x; unfold rect; omega)
      (fun x y hx hy h h' => by unfold rect at h; omega)
  ihave HbT := hJ $$ [HbT HbJ]
  · isplitl [HbT] <;> iassumption
  iapply Hk
  unfold Post0 Src RO
  isplitl [HFW HFX HFT]
  · isplitl [HFW]; · iexact HFW
    isplitl [HFX] <;> iassumption
  isplitl [HWt HbT]
  · isplitl [HWt] <;> iassumption
  isplitl [HXs HWs HB]
  · isplitl [HXs]; · iexact HXs
    isplitl [HWs] <;> iassumption
  isplitl [HbWs HbB]
  · unfold Any1
    isplitl [HbWs]
    · iexists _; iexact HbWs
    · iexists _; iexact HbB
  isplitl [HcW HcB HbXs]
  · isplitl [HcW]; · iexact HcW
    isplitl [HcB] <;> iassumption
  isplitr [HO]
  · isplitl [Hv0]; · iexact Hv0
    isplitl [Hv5]; · iexact Hv5
    isplitl [Hv6] <;> iassumption
  · iexact HO

end Cert.KernelIdeal
-- ==== Proof.StrEq.lean ====
/- The printed body is the body written with loops. -/
module

public import proofs.«01_k».proof.Proof.Str
public import Idealize.ShloMosaic.Lib.Tactic

@[expose] public section

noncomputable section
namespace Cert.KernelIdeal
open Idealize.ShloMosaic Idealize.SL.Sem
variable {F : FTy → Type} [FloatOps F] [Facts]

theorem body_eq (i : grid0.Coords) :
    cc0__body (F := F) i (Memref.whole main_v3) (Memref.isWhole_whole _) (Memref.whole main_arg1) (Memref.isWhole_whole _) (Memref.whole main_v2) (Memref.isWhole_whole _) (Memref.whole main_arg3) (Memref.isWhole_whole _) (Memref.whole main_arg4) (Memref.isWhole_whole _) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
    = body i fun s => s.exit := by
  sl_kernel_rfl

end Cert.KernelIdeal
-- ==== Proof.Tile.lean ====
/- The tiles, and the whole body. -/
module

public import proofs.«01_k».proof.Proof.Pro
public import proofs.«01_k».proof.Proof.StrEq

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx
open Shapes1.Facts₀ Shapes2.Facts₀ K0.Facts₀ Facts₀ Facts

variable {F : FTy → Type} [FloatOps F] [Facts]

local notation "𝕄" => MT nD τ sig Unit (Elt F) ℕ (Pipeline.UD sig nD τ) ℕ

/-- The projection of tile `t`. -/
def hT (X Wb : ℕ → ℕ → Elt F .fp8e4m3) (t : ℕ) (l : Fin 2) : ℕ → ℕ → Elt F .f32 := hOf (pieceOf (gAt (xv X t) (wv Wb) 24)) l

variable {d : Dev nD} {X Wb : ℕ → ℕ → Elt F .fp8e4m3} {cw cb XS : ℕ → ℕ → Elt F .f32} {hh : ℕ → Fin 2 → ℕ → ℕ → Elt F .f32}
variable {defs : Defs nD τ sig (Elt F) Λ₀} {α : Type} {Q : α → sProp (MT nD τ sig Unit (Elt F) ℕ (Pipeline.UD sig nD τ) ℕ)}

/-! ## What the epilogue keeps of the waits -/

theorem Rest_OW {t : ℕ} : Rest d cw cb XS hh t ⊢ (iprop(OW d ∗ (OW d -∗ Rest d cw cb XS hh t)) : sProp 𝕄) := by
  unfold Rest
  iintro ⟨H1, H2, HW⟩
  isplitl [HW]; · iexact HW
  iintro HW
  isplitl [H1]; · iexact H1
  isplitl [H2] <;> iassumption

theorem Ep_OW {t j : ℕ} : Ep d cw cb XS hh t j ⊢ (iprop(OW d ∗ (OW d -∗ Ep d cw cb XS hh t j)) : sProp 𝕄) := by
  unfold Ep
  by_cases h0 : j = 0
  · rw [if_pos h0]
    unfold Ready
    iintro ⟨H1, H2, H3, H4, H5, H6⟩
    ihave H6 := Rest_OW $$ H6
    icases H6 with ⟨HW, H6⟩
    isplitl [HW]; · iexact HW
    iintro HW
    isplitl [H1]; · iexact H1
    isplitl [H2]; · iexact H2
    isplitl [H3]; · iexact H3
    isplitl [H4]; · iexact H4
    isplitl [H5]; · iexact H5
    iapply H6 $$ HW
  rw [if_neg h0]
  by_cases h1 : j ≤ 16 * lanes t + 1
  · rw [if_pos h1]
    unfold Mids
    iintro ⟨H1, H2, H3, H6⟩
    ihave H6 := Rest_OW $$ H6
    icases H6 with ⟨HW, H6⟩
    isplitl [HW]; · iexact HW
    iintro HW
    isplitl [H1]; · iexact H1
    isplitl [H2]; · iexact H2
    isplitl [H3]; · iexact H3
    iapply H6 $$ HW
  · rw [if_neg h1]
    unfold Idle
    iintro ⟨H1, H2, H3, H4, H5, H6⟩
    ihave H6 := Rest_OW $$ H6
    icases H6 with ⟨HW, H6⟩
    isplitl [HW]; · iexact HW
    iintro HW
    isplitl [H1]; · iexact H1
    isplitl [H2]; · iexact H2
    isplitl [H3]; · iexact H3
    isplitl [H4]; · iexact H4
    isplitl [H5]; · iexact H5
    iapply H6 $$ HW

theorem Ep_first {t : ℕ} : Ep d cw cb XS hh t 0 = (Ready d cw cb XS hh t : sProp 𝕄) := by unfold Ep; rw [if_pos rfl]
theorem Ep_last {t : ℕ} : Ep d cw cb XS hh t (nItems t) = (Idle d cw cb XS hh (t + 1) : sProp 𝕄) := by
  unfold Ep nItems; rw [if_neg (by omega), if_neg (by omega)]

/-! ## A tile's drain -/

theorem wp_drainT {t : ℕ} {s : Mxu F} {κ : Mxu F → Pg F α} (H : MxI t s (gAt (xv X t) (wv Wb) 24) ∧ NoReg s) :
    Idle d cw cb XS (hT X Wb) t
      ⊢ iprop((∀ s', iprop(⌜Empty s'⌝ ∗ Ep d cw cb XS (hT X Wb) t 0) -∗ WP defs d (κ s') Q) -∗ WP defs d (drain t s κ) Q) := by
  rw [Ep_first]
  unfold Idle Ready
  iintro ⟨⟨HA, HB⟩, HR⟩ Hk
  ihave HA := (Any_Kn (H := hT X Wb t 0)) $$ HA
  ihave HB := (Any_Kn (H := hT X Wb t 1)) $$ HB
  iapply (wp_drain H.1 H.2 (fun q c hc => by
    unfold gAt; rw [if_neg (by omega), if_neg (by omega)])) $$ [HA HB]
  · isplitl [HA] <;> iassumption
  iintro %s' ⟨%H', HA, HB⟩
  iapply Hk $$ %_ [HA HB HR]
  isplitr
  · ipureintro; exact H'
  isplitl [HA HB]
  · isplitl [HA]
    · iexact HA
    · iexact HB
  · iexact HR

/-! ## Tile 0 -/

/-- The weights brought in before step `k`, and the tail. -/
def wIn (k : ℕ) : ℕ → ℕ → Prop := fun x y => (famW.S x y ∧ famW.ρ x y < k) ∨ tail x y

theorem wIn_join {k : ℕ} : iprop(O2 d bW (fun x y => famW.S x y ∧ famW.ρ x y < k) Wb ∗ O2 d bW tail Wb) ⊢ (O2 d bW (wIn k) Wb : sProp 𝕄) :=
  O2_join d (fun _ _ _ _ => Iff.rfl) (fun x y _ _ h h' => by
    have h1 : x < 1024 := h.1
    have h2 : 1024 ≤ x := h'
    omega)
theorem wIn_split {k : ℕ} : (O2 d bW (wIn k) Wb : sProp 𝕄) ⊢ iprop(O2 d bW (fun x y => famW.S x y ∧ famW.ρ x y < k) Wb ∗ O2 d bW tail Wb) :=
  O2_split d (fun _ _ _ _ => Iff.rfl) (fun x y _ _ h h' => by
    have h1 : x < 1024 := h.1
    have h2 : 1024 ≤ x := h'
    omega)

theorem wp_waitWX {k : ℕ} {hk : k < 24} {κ : Pg F α} :
    iprop(Land d aWt bW famW Wb k ∗ Land d aX bX famX X k ∗ OW d)
      ⊢ iprop((iprop(Land d aWt bW famW Wb (k + 1) ∗ Land d aX bX famX X (k + 1) ∗ OW d) -∗ WP defs d κ Q)
        -∗ WP defs d (waitWX k hk κ) Q) := by
  unfold waitWX waitW waitX
  iintro ⟨H1, H2, HW⟩ Hk
  iapply (wp_land d (f := famW) (r := 0) (c := 256 * k) (a := 1024) (b := 256) hk ⟨rfl, rfl, rfl, rfl⟩ (iC_cell _ _)) $$ [H1 HW]
  · isplitl [H1] <;> iassumption
  iintro ⟨H1, HW⟩
  iapply (wp_land d (f := famX) (r := 0) (c := 256 * k) (a := 256) (b := 256) hk ⟨rfl, rfl, rfl, rfl⟩ (iC_cell _ _)) $$ [H2 HW]
  · isplitl [H2] <;> iassumption
  iintro ⟨H2, HW⟩
  iapply Hk
  isplitl [H1]; · iexact H1
  isplitl [H2] <;> iassumption

def Inv0 (d : Dev nD) (X Wb : ℕ → ℕ → Elt F .fp8e4m3) (k : ℕ) (s : Mxu F) : sProp 𝕄 :=
  iprop(⌜MxI 0 s (gAt (xv X 0) (wv Wb) k) ∧ NoReg s⌝ ∗ (Land d aWt bW famW Wb k ∗ Land d aX bX famX X k ∗ OW d) ∗ O2 d bW tail Wb)

theorem wp_step0 {k : ℕ} {hk : k < 24} {s : Mxu F} {κ : Mxu F → Pg F α} :
    Inv0 d X Wb k s ⊢ iprop((∀ s', Inv0 d X Wb (k + 1) s' -∗ WP defs d (κ s') Q) -∗ WP defs d (step0 k hk s κ) Q) := by
  unfold step0 Inv0
  iintro ⟨%H, HL, HT⟩ Hk
  iapply wp_waitWX $$ HL
  unfold Land
  iintro ⟨⟨Hw1, Hw2, Hw3, Hw4⟩, ⟨Hx1, Hx2, Hx3, Hx4⟩, HW⟩
  ihave HB := wIn_join $$ [Hw2 HT]
  · isplitl [Hw2] <;> iassumption
  iapply (wp_kStep (X := X) (Wb := Wb) (PX := fun x y => famX.S x y ∧ famX.ρ x y < k + 1) (PW := wIn (k + 1)) H
    (fun i j hi hj => ?_) (fun x y hx h1 h2 => ?_)) $$ [Hx2 HB]
  · exact ⟨show f0 0 + i < 256 by unfold f0; omega, show (256 * k + j) / 256 < k + 1 by omega⟩
  · unfold wIn
    by_cases h : x < 1024
    · exact .inl ⟨h, show y / 256 < k + 1 by omega⟩
    · exact .inr (show 1024 ≤ x by omega)
  · isplitl [Hx2] <;> iassumption
  iintro %s' ⟨%H', Hx2, HB⟩
  ihave HB := wIn_split $$ HB
  icases HB with ⟨Hw2, HT⟩
  iapply Hk $$ %_ [Hw1 Hw2 Hw3 Hw4 Hx1 Hx2 Hx3 Hx4 HW HT]
  isplitr
  · ipureintro; exact H'
  isplitr [HT]
  · isplitl [Hw1 Hw2 Hw3 Hw4]
    · isplitl [Hw1]; · iexact Hw1
      isplitl [Hw2]; · iexact Hw2
      isplitl [Hw3] <;> iassumption
    isplitl [Hx1 Hx2 Hx3 Hx4]
    · isplitl [Hx1]; · iexact Hx1
      isplitl [Hx2]; · iexact Hx2
      isplitl [Hx3] <;> iassumption
    · iexact HW
  · iexact HT

/-! ## The other tiles -/

/-- The activations tile `t` reads at a step. -/
def xIn (n : ℕ) : ℕ → ℕ → Prop := fun x y => famX.S x y ∨ (famT.S x y ∧ famT.ρ x y < n)

theorem xIn_join {n : ℕ} : iprop(O2 d bX famX.S X ∗ O2 d bX (fun x y => famT.S x y ∧ famT.ρ x y < n) X) ⊢ (O2 d bX (xIn n) X : sProp 𝕄) :=
  O2_join d (fun _ _ _ _ => Iff.rfl) (fun x y _ _ h h' => by
    have h1 : x < 256 := h
    have h2 : 256 ≤ x := h'.1.1
    omega)
theorem xIn_split {n : ℕ} : (O2 d bX (xIn n) X : sProp 𝕄) ⊢ iprop(O2 d bX famX.S X ∗ O2 d bX (fun x y => famT.S x y ∧ famT.ρ x y < n) X) :=
  O2_split d (fun _ _ _ _ => Iff.rfl) (fun x y _ _ h h' => by
    have h1 : x < 256 := h
    have h2 : 256 ≤ x := h'.1.1
    omega)

/-- The thirds brought in before step `k` of tile `t`. -/
def nT (t k : ℕ) : ℕ := 3 * (t - 1) + (k + 7) / 8

def InvN (d : Dev nD) (X Wb : ℕ → ℕ → Elt F .fp8e4m3) (cw cb XS : ℕ → ℕ → Elt F .f32) (t k : ℕ) (s : Mxu F) : sProp 𝕄 :=
  iprop(⌜MxI t s (gAt (xv X t) (wv Wb) k) ∧ NoReg s⌝ ∗ (O2 d bX famX.S X ∗ Land d aX bX famT X (nT t k) ∗ O2 d bW T2 Wb)
    ∗ Ep d cw cb XS (hT X Wb) (t - 1) (nItems (t - 1) * k / 24))

theorem wp_waitXT {t j : ℕ} {ht : t < 8} {h : 1 ≤ t} {hj : j < 3} {κ : Pg F α} :
    iprop(Land d aX bX famT X (3 * (t - 1) + j) ∗ OW d)
      ⊢ iprop((iprop(Land d aX bX famT X (3 * (t - 1) + j + 1) ∗ OW d) -∗ WP defs d κ Q) -∗ WP defs d (waitXT t j ht h hj κ) Q) := by
  unfold waitXT waitX
  have e1 : (3 * (t - 1) + j) / 3 + 1 = t := by omega
  have e2 : (3 * (t - 1) + j) % 3 = j := by omega
  refine wp_land d (f := famT) (r := loT t) (c := 2048 * j) (a := 256 * t + 128 - loT t) (b := 2048)
    (show 3 * (t - 1) + j < 21 by omega) ⟨?_, ?_, ?_, rfl⟩ ((iC_cell _ _).trans (congrArg cell ?_))
  · show loT ((3 * (t - 1) + j) / 3 + 1) = loT t
    rw [e1]
  · show 2048 * ((3 * (t - 1) + j) % 3) = 2048 * j
    rw [e2]
  · show 256 * ((3 * (t - 1) + j) / 3 + 1) + 128 - loT ((3 * (t - 1) + j) / 3 + 1) = 256 * t + 128 - loT t
    rw [e1]
  · show 52 + 3 * (t - 1) + j = 52 + 3 * ((3 * (t - 1) + j) / 3 + 1 - 1) + (3 * (t - 1) + j) % 3
    rw [e1, e2]

theorem wp_restN {t k : ℕ} {ht : t < 8} {h : 1 ≤ t} {hk : k < 24} {s : Mxu F} {κ : Mxu F → Pg F α}
    (H : MxI t s (gAt (xv X t) (wv Wb) k) ∧ NoReg s) :
    iprop((O2 d bX famX.S X ∗ Land d aX bX famT X (nT t (k + 1)) ∗ O2 d bW T2 Wb)
        ∗ Ep d cw cb XS (hT X Wb) (t - 1) (nItems (t - 1) * k / 24))
      ⊢ iprop((∀ s', InvN d X Wb cw cb XS t (k + 1) s' -∗ WP defs d (κ s') Q)
        -∗ WP defs d (kStep t k ht hk s fun s =>
          items (t - 1) (by omega) (nItems (t - 1) * (k + 1) / 24 - nItems (t - 1) * k / 24) (nItems (t - 1) * k / 24) (κ s)) Q) := by
  unfold InvN Land
  iintro ⟨⟨HX, ⟨H1, H2, H3, H4⟩, HB⟩, HE⟩ Hk
  ihave HX := xIn_join $$ [HX H2]
  · isplitl [HX] <;> iassumption
  iapply (wp_kStep (X := X) (Wb := Wb) (PX := xIn (nT t (k + 1))) (PW := T2) H (fun i j hi hj => ?_)
    (fun x y hx h1 h2 => trivial)) $$ [HX HB]
  · unfold xIn
    by_cases hx : f0 t + i < 256
    · exact .inl hx
    · refine .inr ⟨⟨?_, ?_, ?_⟩, ?_⟩
      · omega
      · unfold f0; omega
      · omega
      · show 3 * ((f0 t + i + 128) / 256 - 1) + (256 * k + j) / 2048 < nT t (k + 1)
        unfold f0 nT
        omega
  · isplitl [HX] <;> iassumption
  iintro %s' ⟨%H', HX, HB⟩
  ihave HX := xIn_split $$ HX
  icases HX with ⟨HX, H2⟩
  have hle : nItems (t - 1) * k / 24 ≤ nItems (t - 1) * (k + 1) / 24 := Nat.div_le_div_right (Nat.mul_le_mul_left _ (Nat.le_succ k))
  have hle' : nItems (t - 1) * (k + 1) / 24 ≤ nItems (t - 1) := by
    refine (Nat.div_le_div_right (Nat.mul_le_mul_left _ (show k + 1 ≤ 24 by omega))).trans ?_
    omega
  have hadd : nItems (t - 1) * k / 24 + (nItems (t - 1) * (k + 1) / 24 - nItems (t - 1) * k / 24) = nItems (t - 1) * (k + 1) / 24 := by omega
  iapply (wp_items (nItems (t - 1) * (k + 1) / 24 - nItems (t - 1) * k / 24) (nItems (t - 1) * k / 24) (by omega) _) $$ HE
  rw [hadd]
  iintro HE
  iapply Hk $$ %_ [HX H1 H2 H3 H4 HB HE]
  isplitr
  · ipureintro; exact H'
  isplitr [HE]
  · isplitl [HX]; · iexact HX
    isplitr [HB]
    · isplitl [H1]; · iexact H1
      isplitl [H2]; · iexact H2
      isplitl [H3] <;> iassumption
    · iexact HB
  · iexact HE

theorem wp_stepN {t k : ℕ} {ht : t < 8} {h : 1 ≤ t} {hk : k < 24} {s : Mxu F} {κ : Mxu F → Pg F α} :
    InvN d X Wb cw cb XS t k s
      ⊢ iprop((∀ s', InvN d X Wb cw cb XS t (k + 1) s' -∗ WP defs d (κ s') Q) -∗ WP defs d (stepN t k ht h hk s κ) Q) := by
  have hN : InvN d X Wb cw cb XS t k s = (iprop(⌜MxI t s (gAt (xv X t) (wv Wb) k) ∧ NoReg s⌝ ∗ (O2 d bX famX.S X ∗ Land d aX bX famT X (nT t k) ∗ O2 d bW T2 Wb)
    ∗ Ep d cw cb XS (hT X Wb) (t - 1) (nItems (t - 1) * k / 24)) : sProp 𝕄) := rfl
  rw [hN]
  unfold stepN
  by_cases h8 : k % 8 = 0
  · have hb : Nat.beq (k % 8) 0 = true := Nat.beq_eq ▸ h8
    have e1 : nT t k = 3 * (t - 1) + k / 8 := by unfold nT; omega
    have e2 : nT t (k + 1) = 3 * (t - 1) + k / 8 + 1 := by unfold nT; omega
    rw [e1]
    dsimp only
    rw [hb, cond_true]
    iintro ⟨%H, ⟨HX, HL, HB⟩, HE⟩ Hk
    ihave HE := Ep_OW $$ HE
    icases HE with ⟨HW, HE⟩
    iapply wp_waitXT $$ [HL HW]
    · isplitl [HL] <;> iassumption
    iintro ⟨HL, HW⟩
    ihave HE := HE $$ HW
    iapply (wp_restN (h := h) H) $$ [HX HL HB HE]
    · rw [e2]
      isplitr [HE]
      · isplitl [HX]; · iexact HX
        isplitl [HL] <;> iassumption
      · iexact HE
    iexact Hk
  · have hb : Nat.beq (k % 8) 0 = false := by rw [← Bool.not_eq_true, Nat.beq_eq]; exact h8
    have e1 : nT t k = nT t (k + 1) := by unfold nT; omega
    rw [e1]
    dsimp only
    rw [hb, cond_false]
    iintro ⟨%H, HL, HE⟩ Hk
    iapply (wp_restN (h := h) H) $$ [HL HE]
    · isplitl [HL] <;> iassumption
    iexact Hk

/-- After tile `t`. -/
def InvT (d : Dev nD) (X Wb : ℕ → ℕ → Elt F .fp8e4m3) (cw cb XS : ℕ → ℕ → Elt F .f32) (t : ℕ) (s : Mxu F) : sProp 𝕄 :=
  iprop(⌜Empty s⌝ ∗ (O2 d bX famX.S X ∗ Land d aX bX famT X (3 * t) ∗ O2 d bW T2 Wb) ∗ Ep d cw cb XS (hT X Wb) t 0)

theorem wp_tileN {t : ℕ} {ht : t + 1 < 8} {h : 1 ≤ t + 1} {s : Mxu F} {κ : Mxu F → Pg F α} :
    InvT d X Wb cw cb XS t s
      ⊢ iprop((∀ s', InvT d X Wb cw cb XS (t + 1) s' -∗ WP defs d (κ s') Q) -∗ WP defs d (tileN (t + 1) ht h s κ) Q) := by
  unfold tileN InvT
  iintro ⟨%H, HR, HE⟩ Hk
  iapply (wp_forK d (fun k s => InvN d X Wb cw cb XS (t + 1) k s) (fun k hk s κ => wp_stepN) 24 0 rfl s _) $$ [HR HE]
  · unfold InvN
    rw [show nT (t + 1) 0 = 3 * t by unfold nT; omega, Nat.mul_zero, Nat.zero_div, Nat.add_sub_cancel]
    isplitr
    · ipureintro
      refine ⟨?_, H.1⟩
      rw [gAt_zero]
      exact H.mxI _
    isplitl [HR] <;> iassumption
  unfold InvN
  rw [show nT (t + 1) 24 = 3 * (t + 1) by unfold nT; omega, Nat.mul_div_cancel _ (show 0 < 24 by decide), Nat.add_sub_cancel, Ep_last]
  iintro %s' ⟨%H', HR, HE⟩
  iapply (wp_drainT H') $$ HE
  iintro %s'' ⟨%H'', HE⟩
  iapply Hk $$ %_ [HR HE]
  isplitr
  · ipureintro; exact H''
  isplitl [HR] <;> iassumption

/-! ## The whole body -/

/-- The cells of the copies out. -/
def SemOut (d : Dev nD) : sProp 𝕄 := iprop(sv d 73 ∗ sv d 74 ∗ sv d 75 ∗ sv d 76)

def AnyO (d : Dev nD) : sProp 𝕄 := iprop(∃ A : ℕ → ℕ → ℕ → Elt F .bf16, O3 d bO T3 A)

variable (d X Wb XS) (ws bb : ℕ → Elt F .f32)

/-- The spectrum. -/
def Res : ℕ → ℕ → ℕ → Elt F .bf16 := GG (colOf ws) (colOf bb) XS (hT X Wb)

def PreB : sProp 𝕄 :=
  iprop(Pre0 d X Wb XS ws bb ∗ ((Any d (bH 0) ∗ Any d (bH 1)) ∗ (Any d (bS 0) ∗ Any d (bS 1)) ∗ AnyO d)
    ∗ (∃ J : ℕ → ℕ → ℕ → Elt F .bf16, O3 d aO T3 J) ∗ SemOut d)

def PostB : sProp 𝕄 :=
  iprop((O2 d aX T2 X ∗ O2 d aWt T2 Wb ∗ Src d XS ws bb) ∗ O3 d aO T3 (Res X Wb XS ws bb)
    ∗ (Any d bX ∗ Any d bW ∗ Any d bXs ∗ Any1 d bWs ∗ Any1 d bB ∗ Any d cW ∗ Any d cB)
    ∗ ((Any d (bH 0) ∗ Any d (bH 1)) ∗ (Any d (bS 0) ∗ Any d (bS 1)) ∗ AnyO d) ∗ SemIn d ∗ SemOut d ∗ OW d)

variable {d X Wb XS ws bb}

theorem Free_split : (AnyO d : sProp 𝕄) ⊢ iprop((∃ A : ℕ → ℕ → ℕ → Elt F .bf16, O3 d bO (fun s _ _ => s = 0) A)
    ∗ (∃ A : ℕ → ℕ → ℕ → Elt F .bf16, O3 d bO (fun s _ _ => s = 1) A)
    ∗ (∃ A : ℕ → ℕ → ℕ → Elt F .bf16, O3 d bO (fun s _ _ => s = 2) A)
    ∗ (∃ A : ℕ → ℕ → ℕ → Elt F .bf16, O3 d bO (fun s _ _ => s = 3) A)) := by
  have h1 : ∀ A : ℕ → ℕ → ℕ → Elt F .bf16, O3 d bO T3 A ⊢ (iprop(O3 d bO (fun s _ _ => s = 0) A ∗ O3 d bO (fun s _ _ => 1 ≤ s) A) : sProp 𝕄) :=
    fun A => O3_split d (fun x _ _ _ _ _ => ⟨fun _ => by omega, fun _ => trivial⟩) (fun x _ _ _ _ _ h h' => by omega)
  have h2 : ∀ A : ℕ → ℕ → ℕ → Elt F .bf16, O3 d bO (fun s _ _ => 1 ≤ s) A ⊢ (iprop(O3 d bO (fun s _ _ => s = 1) A ∗ O3 d bO (fun s _ _ => 2 ≤ s) A) : sProp 𝕄) :=
    fun A => O3_split d (fun x _ _ _ _ _ => by omega) (fun x _ _ _ _ _ h h' => by omega)
  have h3 : ∀ A : ℕ → ℕ → ℕ → Elt F .bf16, O3 d bO (fun s _ _ => 2 ≤ s) A ⊢ (iprop(O3 d bO (fun s _ _ => s = 2) A ∗ O3 d bO (fun s _ _ => s = 3) A) : sProp 𝕄) :=
    fun A => O3_split d (fun x _ _ hx _ _ => by omega) (fun x _ _ _ _ _ h h' => by omega)
  unfold AnyO
  iintro ⟨%A, H⟩
  ihave H := (h1 A) $$ H
  icases H with ⟨H0, H⟩
  ihave H := (h2 A) $$ H
  icases H with ⟨H1, H⟩
  ihave H := (h3 A) $$ H
  icases H with ⟨H2, H3⟩
  isplitl [H0]; · iexists A; iexact H0
  isplitl [H1]; · iexists A; iexact H1
  isplitl [H2]; · iexists A; iexact H2
  iexists A; iexact H3

theorem Free_join : (iprop((∃ A : ℕ → ℕ → ℕ → Elt F .bf16, O3 d bO (fun s _ _ => s = 0) A)
    ∗ (∃ A : ℕ → ℕ → ℕ → Elt F .bf16, O3 d bO (fun s _ _ => s = 1) A)
    ∗ (∃ A : ℕ → ℕ → ℕ → Elt F .bf16, O3 d bO (fun s _ _ => s = 2) A)
    ∗ (∃ A : ℕ → ℕ → ℕ → Elt F .bf16, O3 d bO (fun s _ _ => s = 3) A)) : sProp 𝕄) ⊢ AnyO d := by
  have h1 : ∀ A : ℕ → ℕ → ℕ → Elt F .bf16, (iprop(O3 d bO (fun s _ _ => s = 0) A ∗ O3 d bO (fun s _ _ => 1 ≤ s) A) : sProp 𝕄) ⊢ O3 d bO T3 A :=
    fun A => O3_join d (fun x _ _ _ _ _ => ⟨fun _ => by omega, fun _ => trivial⟩) (fun x _ _ _ _ _ h h' => by omega)
  have h2 : ∀ A : ℕ → ℕ → ℕ → Elt F .bf16, (iprop(O3 d bO (fun s _ _ => s = 1) A ∗ O3 d bO (fun s _ _ => 2 ≤ s) A) : sProp 𝕄) ⊢ O3 d bO (fun s _ _ => 1 ≤ s) A :=
    fun A => O3_join d (fun x _ _ _ _ _ => by omega) (fun x _ _ _ _ _ h h' => by omega)
  have h3 : ∀ A : ℕ → ℕ → ℕ → Elt F .bf16, (iprop(O3 d bO (fun s _ _ => s = 2) A ∗ O3 d bO (fun s _ _ => s = 3) A) : sProp 𝕄) ⊢ O3 d bO (fun s _ _ => 2 ≤ s) A :=
    fun A => O3_join d (fun x _ _ hx _ _ => by omega) (fun x _ _ _ _ _ h h' => by omega)
  unfold AnyO
  iintro ⟨⟨%A0, H0⟩, ⟨%A1, H1⟩, ⟨%A2, H2⟩, ⟨%A3, H3⟩⟩
  ihave H0 := (O3_val d (B := fun s y z => if s = 0 then A0 s y z else if s = 1 then A1 s y z else if s = 2 then A2 s y z else A3 s y z)
    (fun s y z _ _ _ h => by subst h; rfl)) $$ H0
  ihave H1 := (O3_val d (B := fun s y z => if s = 0 then A0 s y z else if s = 1 then A1 s y z else if s = 2 then A2 s y z else A3 s y z)
    (fun s y z _ _ _ h => by subst h; rfl)) $$ H1
  ihave H2 := (O3_val d (B := fun s y z => if s = 0 then A0 s y z else if s = 1 then A1 s y z else if s = 2 then A2 s y z else A3 s y z)
    (fun s y z _ _ _ h => by subst h; rfl)) $$ H2
  ihave H3 := (O3_val d (B := fun s y z => if s = 0 then A0 s y z else if s = 1 then A1 s y z else if s = 2 then A2 s y z else A3 s y z)
    (fun s y z _ _ _ h => by subst h; rfl)) $$ H3
  ihave H := (h3 _) $$ [H2 H3]
  · isplitl [H2] <;> iassumption
  ihave H := (h2 _) $$ [H1 H]
  · isplitl [H1] <;> iassumption
  ihave H := (h1 _) $$ [H0 H]
  · isplitl [H0] <;> iassumption
  iexists _
  iexact H

theorem Res_none {J : ℕ → ℕ → ℕ → Elt F .bf16} :
    (O3 d aO T3 J : sProp 𝕄) ⊢ iprop(Pending d (2 * 0 - 1) ∗ Landed d cw cb XS hh (2 * (0 - 2) - 1)) := by
  have h : O3 d aO T3 J ⊢ (iprop(O3 d aO (fun b _ z => 0 ≤ 5 * b + z / 128) J ∗ O3 d aO (fun b _ z => 5 * b + z / 128 < 0) J) : sProp 𝕄) :=
    O3_split d (fun _ _ _ _ _ _ => ⟨fun _ => .inl (Nat.zero_le _), fun _ => trivial⟩) (fun _ _ _ _ _ _ h h' => by omega)
  unfold Pending Landed
  iintro H
  ihave H := h $$ H
  icases H with ⟨H, H'⟩
  isplitl [H]
  · iexists J; iexact H
  · iapply (O3_val d (fun _ _ _ _ _ _ h => absurd h (by omega))) $$ H'

theorem slots0 {t : ℕ} (h : t < 2) : (iprop(Slot d cw cb XS hh t 0 ∗ Slot d cw cb XS hh t 1) : sProp 𝕄)
    = iprop(Free d (2 * (t % 2) + (0 : Fin 2).val) ∗ Free d (2 * (t % 2) + (1 : Fin 2).val)) := by
  unfold Slot; rw [if_pos h, if_pos h]
theorem slots2 {t : ℕ} : (iprop(Slot d cw cb XS hh (t + 2) 0 ∗ Slot d cw cb XS hh (t + 2) 1) : sProp 𝕄)
    = iprop(Busy d cw cb XS hh t 0 ∗ Busy d cw cb XS hh t 1) := by
  unfold Slot; rw [if_neg (by omega), if_neg (by omega), Nat.add_sub_cancel]

theorem wp_body {i : grid0.Coords} {κ : Mxu F → Pg F α} :
    PreB d X Wb XS ws bb ⊢ iprop((∀ s, iprop(⌜Empty s⌝ ∗ PostB d X Wb XS ws bb) -∗ WP defs d (κ s) Q) -∗ WP defs d (body i κ) Q) := by
  unfold PreB SemOut body tile0
  iintro ⟨HP, ⟨HH, HS, HO⟩, ⟨%J0, HY⟩, Hv0, Hv1, Hv2, Hv3⟩ Hk
  iapply wp_prologue $$ HP
  unfold Post0
  iintro ⟨⟨HW, HX, HT⟩, ⟨HaW, HbW⟩, Hsrc, Hb1, HR, Hv, HOW⟩
  iapply (wp_forK d (fun k s => Inv0 d X Wb k s) (fun k hk s κ => wp_step0) 24 0 rfl _ _) $$ [HW HX HbW HOW]
  · unfold Inv0
    isplitr
    · ipureintro
      refine ⟨?_, Empty.init.1⟩
      rw [gAt_zero]
      exact Empty.init.mxI _
    isplitr [HbW]
    · isplitl [HW]; · iexact HW
      isplitl [HX]; · iexact HX
      iexact HOW
    · iexact HbW
  unfold Inv0
  iintro %s ⟨%H, ⟨HW, HX, HOW⟩, HbW⟩
  have lW : Land d aWt bW famW Wb 24 ⊢ (iprop(O2 d aWt famW.S Wb ∗ O2 d bW famW.S Wb ∗ bigSep (Finset.Ico 0 24) (fun n => sv d (semW n))) : sProp 𝕄) :=
    Land_last d (f := famW) (fun x y _ hy _ => by show y / 256 < 24; omega) (fun x y _ hy _ => by show y / 256 < 24; omega)
  have lX : Land d aX bX famX X 24 ⊢ (iprop(O2 d aX famX.S X ∗ O2 d bX famX.S X ∗ bigSep (Finset.Ico 0 24) (fun n => sv d (semX n))) : sProp 𝕄) :=
    Land_last d (f := famX) (fun x y _ hy _ => by show y / 256 < 24; omega) (fun x y _ hy _ => by show y / 256 < 24; omega)
  have lT : Land d aX bX famT X (3 * 7) ⊢ (iprop(O2 d aX famT.S X ∗ O2 d bX famT.S X
      ∗ bigSep (Finset.Ico 0 21) (fun n => sv d (52 + 3 * (n / 3 + 1 - 1) + n % 3))) : sProp 𝕄) :=
    Land_last d (f := famT) (fun x y hx hy _ => by show 3 * ((x + 128) / 256 - 1) + y / 2048 < 21; omega)
      (fun x y hx hy _ => by show 3 * ((x + 128) / 256 - 1) + y / 2048 < 21; omega)
  have jW : iprop(O2 d bW famW.S Wb ∗ O2 d bW tail Wb) ⊢ (O2 d bW T2 Wb : sProp 𝕄) :=
    O2_join d (fun x y hx hy => ⟨fun _ => by show x < 1024 ∨ 1024 ≤ x; omega, fun _ => trivial⟩)
      (fun x y hx hy h h' => by change x < 1024 at h; change 1024 ≤ x at h'; omega)
  have jW' : iprop(O2 d aWt famW.S Wb ∗ O2 d aWt tail Wb) ⊢ (O2 d aWt T2 Wb : sProp 𝕄) :=
    O2_join d (fun x y hx hy => ⟨fun _ => by show x < 1024 ∨ 1024 ≤ x; omega, fun _ => trivial⟩)
      (fun x y hx hy h h' => by change x < 1024 at h; change 1024 ≤ x at h'; omega)
  have jX : iprop(O2 d aX famX.S X ∗ O2 d aX famT.S X) ⊢ (O2 d aX T2 X : sProp 𝕄) :=
    O2_join d (fun x y hx hy => ⟨fun _ => by show x < 256 ∨ (256 ≤ x ∧ x < 1920 ∧ y < 6144); omega, fun _ => trivial⟩)
      (fun x y hx hy h h' => by change x < 256 at h; change 256 ≤ x ∧ _ at h'; omega)
  have jX' : iprop(O2 d bX famX.S X ∗ O2 d bX famT.S X) ⊢ (O2 d bX T2 X : sProp 𝕄) :=
    O2_join d (fun x y hx hy => ⟨fun _ => by show x < 256 ∨ (256 ≤ x ∧ x < 1920 ∧ y < 6144); omega, fun _ => trivial⟩)
      (fun x y hx hy h h' => by change x < 256 at h; change 256 ≤ x ∧ _ at h'; omega)
  have lR : O3 d aO (fun b _ z => 5 * b + z / 128 < 2 * (7 + 1) - 1) (GG (colOf ws) (colOf bb) XS (hT X Wb)) ⊢ (O3 d aO T3 (Res X Wb XS ws bb) : sProp 𝕄) :=
    O3_iff d (fun b y z hb hy hz => ⟨fun _ => trivial, fun _ => by omega⟩)
  ihave HW := lW $$ HW
  icases HW with ⟨HaW', HbW', HvW⟩
  ihave HX := lX $$ HX
  icases HX with ⟨HaX, HbX, HvX⟩
  ihave HbW := jW $$ [HbW' HbW]
  · isplitl [HbW'] <;> iassumption
  ihave HaW := jW' $$ [HaW' HaW]
  · isplitl [HaW'] <;> iassumption
  ihave HO := Free_split $$ HO
  icases HO with ⟨Ho0, Ho1, Ho2, Ho3⟩
  ihave HY := (Res_none (cw := colOf ws) (cb := colOf bb) (XS := XS) (hh := hT X Wb)) $$ HY
  icases HY with ⟨HYp, HYl⟩
  iapply (wp_drainT (cw := colOf ws) (cb := colOf bb) (XS := XS) H) $$ [HH HS Ho0 Ho1 Ho2 Ho3 Hv0 Hv1 Hv2 Hv3 HYp HYl HR HOW]
  · unfold Idle Rest
    rw [slots0 (t := 0) (by decide), slots0 (t := 0 + 1) (by decide)]
    unfold Free
    isplitl [HH]; · iexact HH
    isplitl [HS]; · iexact HS
    isplitl [Ho0 Ho1 Hv0 Hv1]
    · isplitl [Ho0 Hv0]
      · isplitl [Ho0]
        · iexact Ho0
        · iexact Hv0
      · isplitl [Ho1]
        · iexact Ho1
        · iexact Hv1
    isplitl [HYp]; · iexact HYp
    isplitl [HYl]; · iexact HYl
    isplitl [HR]; · iexact HR
    isplitl [Ho2 Ho3 Hv2 Hv3]
    · isplitl [Ho2 Hv2]
      · isplitl [Ho2]
        · iexact Ho2
        · iexact Hv2
      · isplitl [Ho3]
        · iexact Ho3
        · iexact Hv3
    iexact HOW
  iintro %s' ⟨%H', HE⟩
  iapply (wp_forK d (fun n s => InvT d X Wb (colOf ws) (colOf bb) XS n s) (fun n hn s κ => wp_tileN) 7 0 rfl _ _) $$ [HbX HT HbW HE]
  · unfold InvT
    isplitr
    · ipureintro; exact H'
    isplitr [HE]
    · isplitl [HbX]; · iexact HbX
      isplitl [HT]; · iexact HT
      iexact HbW
    · iexact HE
  unfold InvT
  iintro %s'' ⟨%H'', ⟨HbX, HT, HbW⟩, HE⟩
  ihave HT := lT $$ HT
  icases HT with ⟨HaT, HbT, HvT⟩
  ihave HaX := jX $$ [HaX HaT]
  · isplitl [HaX] <;> iassumption
  ihave HbX := jX' $$ [HbX HbT]
  · isplitl [HbX] <;> iassumption
  have eE : Ep d (colOf ws) (colOf bb) XS (hT X Wb) 7 (0 + nItems 7) ⊢ (Idle d (colOf ws) (colOf bb) XS (hT X Wb) (7 + 1) : sProp 𝕄) := by
    rw [Nat.zero_add, Ep_last]
  iapply (wp_items (nItems 7) 0 (by rw [Nat.zero_add]) _) $$ HE
  iintro HE
  ihave HE := eE $$ HE
  have eI : Idle d (colOf ws) (colOf bb) XS (hT X Wb) (7 + 1) ⊢ (iprop((Any d (bH 0) ∗ Any d (bH 1)) ∗ (Any d (bS 0) ∗ Any d (bS 1))
      ∗ (Busy d (colOf ws) (colOf bb) XS (hT X Wb) 6 0 ∗ Busy d (colOf ws) (colOf bb) XS (hT X Wb) 6 1)
      ∗ Landed d (colOf ws) (colOf bb) XS (hT X Wb) (2 * 6 - 1) ∗ RO d (colOf ws) (colOf bb) XS
      ∗ (Busy d (colOf ws) (colOf bb) XS (hT X Wb) 7 0 ∗ Busy d (colOf ws) (colOf bb) XS (hT X Wb) 7 1) ∗ OW d) : sProp 𝕄) := by
    unfold Idle Rest
    rw [slots2 (t := 6), show 7 + 1 + 1 = 7 + 2 from rfl, slots2 (t := 7)]
    iintro ⟨H1, H2, H3, -, H4, H5⟩
    isplitl [H1]; · iexact H1
    isplitl [H2]; · iexact H2
    isplitl [H3]; · iexact H3
    isplitl [H4]; · iexact H4
    iexact H5
  ihave HE := eI $$ HE
  icases HE with ⟨HH, HS, HB6, HL, HR, HB7, HOW⟩
  iapply wp_waitsO $$ [HB6 HL HOW]
  · isplitl [HB6]; · iexact HB6
    isplitl [HL] <;> iassumption
  iintro ⟨⟨Hf0, Hf1⟩, HL, HOW⟩
  iapply (wp_waitsO (t := 7)) $$ [HB7 HL HOW]
  · isplitl [HB7]; · iexact HB7
    isplitl [HL]; · iexact HL
    iexact HOW
  unfold Free Landed
  iintro ⟨⟨⟨Hf2, Hv2⟩, Hf3, Hv3⟩, HL, HOW⟩
  icases Hf0 with ⟨Hf0, Hv0⟩
  icases Hf1 with ⟨Hf1, Hv1⟩
  ihave HL := lR $$ HL
  ihave HO := (Free_join (d := d)) $$ [Hf0 Hf1 Hf2 Hf3]
  · isplitl [Hf0]; · iexact Hf0
    isplitl [Hf1]; · iexact Hf1
    isplitl [Hf2]; · iexact Hf2
    iexact Hf3
  iapply Hk $$ %_ [HaX HaW Hsrc HL HbX HbW HR Hb1 HH HS HO Hv HvW HvX HvT Hv0 Hv1 Hv2 Hv3 HOW]
  isplitr
  · ipureintro; exact H''
  unfold PostB SemIn SemOut RO
  icases HR with ⟨HcW, HcB, HbXs⟩
  ihave HcW := Kn_Any $$ HcW
  ihave HcB := Kn_Any $$ HcB
  icases Hb1 with ⟨HbWs, HbB⟩
  isplitl [HaX HaW Hsrc]
  · isplitl [HaX]; · iexact HaX
    isplitl [HaW] <;> iassumption
  isplitl [HL]; · iexact HL
  isplitl [HbX HbW HbXs HbWs HbB HcW HcB]
  · isplitl [HbX]; · unfold Any; iexists _; iexact HbX
    isplitl [HbW]; · unfold Any; iexists _; iexact HbW
    isplitl [HbXs]; · unfold Any; iexists _; iexact HbXs
    isplitl [HbWs]; · iexact HbWs
    isplitl [HbB]; · iexact HbB
    isplitl [HcW] <;> iassumption
  isplitl [HH HS HO]
  · isplitl [HH]; · iexact HH
    isplitl [HS] <;> iassumption
  isplitl [Hv HvW HvX HvT]
  · isplitl [Hv]; · iexact Hv
    isplitl [HvW]; · iexact HvW
    isplitl [HvX] <;> iassumption
  isplitr [HOW]
  · isplitl [Hv0]; · iexact Hv0
    isplitl [Hv1]; · iexact Hv1
    isplitl [Hv2]; · iexact Hv2
    iexact Hv3
  · iexact HOW

end Cert.KernelIdeal
-- ==== Proof.Scr.lean ====
/- The buffers and the semaphores as the kernel is launched with them. -/
module

public import proofs.«01_k».proof.Proof.Tile
public import proofs.«01_k».proof.Proof.Gen.KernelIdeal.Launch
public import Idealize.ShloMosaic.Lib.Pipeline.FrameValue

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx

variable {F : FTy → Type} [FloatOps F]

local notation "𝕄" => MT nD τ sig Unit (Elt F) ℕ (Pipeline.UD sig nD τ) ℕ

/-! ## Arrays by numbers -/

def arr1 {e : EltTy} {R : ℕ} (hR : 0 < R) (f : (⟨1, ![R]⟩ : Shape).Idx → Elt F e) : ℕ → Elt F e :=
  fun a => f (fun k => match k with | ⟨0, _⟩ => ⟨a % R, Nat.mod_lt _ hR⟩)

def arr2 {e : EltTy} {R C : ℕ} (hR : 0 < R) (hC : 0 < C) (f : (⟨2, ![R, C]⟩ : Shape).Idx → Elt F e) : ℕ → ℕ → Elt F e :=
  fun a b => f (fun k => match k with | ⟨0, _⟩ => ⟨a % R, Nat.mod_lt _ hR⟩ | ⟨1, _⟩ => ⟨b % C, Nat.mod_lt _ hC⟩)

def arr3 {e : EltTy} {R C D : ℕ} (hR : 0 < R) (hC : 0 < C) (hD : 0 < D) (f : (⟨3, ![R, C, D]⟩ : Shape).Idx → Elt F e) :
    ℕ → ℕ → ℕ → Elt F e :=
  fun a b z => f (fun k => match k with
    | ⟨0, _⟩ => ⟨a % R, Nat.mod_lt _ hR⟩ | ⟨1, _⟩ => ⟨b % C, Nat.mod_lt _ hC⟩ | ⟨2, _⟩ => ⟨z % D, Nat.mod_lt _ hD⟩)

theorem arr1_eq {e : EltTy} {R : ℕ} (hR : 0 < R) (f : (⟨1, ![R]⟩ : Shape).Idx → Elt F e) (x : (⟨1, ![R]⟩ : Shape).Idx) :
    arr1 hR f (x (0 : Fin 1)).val = f x := by
  unfold arr1
  congr 1
  funext k
  match k with
  | ⟨0, _⟩ => exact Fin.ext (Nat.mod_eq_of_lt (x (0 : Fin 1)).isLt)

theorem arr2_eq {e : EltTy} {R C : ℕ} (hR : 0 < R) (hC : 0 < C) (f : (⟨2, ![R, C]⟩ : Shape).Idx → Elt F e) (x : (⟨2, ![R, C]⟩ : Shape).Idx) :
    arr2 hR hC f (x (0 : Fin 2)).val (x (1 : Fin 2)).val = f x := by
  unfold arr2
  congr 1
  funext k
  match k with
  | ⟨0, _⟩ => exact Fin.ext (Nat.mod_eq_of_lt (x (0 : Fin 2)).isLt)
  | ⟨1, _⟩ => exact Fin.ext (Nat.mod_eq_of_lt (x (1 : Fin 2)).isLt)

theorem arr3_eq {e : EltTy} {R C D : ℕ} (hR : 0 < R) (hC : 0 < C) (hD : 0 < D) (f : (⟨3, ![R, C, D]⟩ : Shape).Idx → Elt F e)
    (x : (⟨3, ![R, C, D]⟩ : Shape).Idx) :
    arr3 hR hC hD f (x (0 : Fin 3)).val (x (1 : Fin 3)).val (x (2 : Fin 3)).val = f x := by
  unfold arr3
  congr 1
  funext k
  match k with
  | ⟨0, _⟩ => exact Fin.ext (Nat.mod_eq_of_lt (x (0 : Fin 3)).isLt)
  | ⟨1, _⟩ => exact Fin.ext (Nat.mod_eq_of_lt (x (1 : Fin 3)).isLt)
  | ⟨2, _⟩ => exact Fin.ext (Nat.mod_eq_of_lt (x (2 : Fin 3)).isLt)

variable {d : Dev nD} {sp : Space} {e : EltTy}

theorem O1_of {R : ℕ} {m : Memref sig .tc sp ⟨1, ![R]⟩ e} (hR : 0 < R) (f : (⟨1, ![R]⟩ : Shape).Idx → Elt F e) :
    (own (d : Thread nD τ) m (fun _ => True) f : sProp 𝕄) ⊢ O1 d m (arr1 hR f) := by
  unfold O1
  exact own_val _ fun x _ => (arr1_eq hR f x).symm
theorem O1_to {R : ℕ} {m : Memref sig .tc sp ⟨1, ![R]⟩ e} (hR : 0 < R) (f : (⟨1, ![R]⟩ : Shape).Idx → Elt F e) :
    (O1 d m (arr1 hR f) : sProp 𝕄) ⊢ own (d : Thread nD τ) m (fun _ => True) f := by
  unfold O1
  exact own_val _ fun x _ => (arr1_eq hR f x)
theorem O2_of {R C : ℕ} {m : Memref sig .tc sp ⟨2, ![R, C]⟩ e} (hR : 0 < R) (hC : 0 < C) (f : (⟨2, ![R, C]⟩ : Shape).Idx → Elt F e) :
    (own (d : Thread nD τ) m (fun _ => True) f : sProp 𝕄) ⊢ O2 d m T2 (arr2 hR hC f) := by
  unfold O2
  exact own_val _ fun x _ => (arr2_eq hR hC f x).symm
theorem O2_to {R C : ℕ} {m : Memref sig .tc sp ⟨2, ![R, C]⟩ e} (hR : 0 < R) (hC : 0 < C) (f : (⟨2, ![R, C]⟩ : Shape).Idx → Elt F e) :
    (O2 d m T2 (arr2 hR hC f) : sProp 𝕄) ⊢ own (d : Thread nD τ) m (fun _ => True) f := by
  unfold O2
  exact own_val _ fun x _ => (arr2_eq hR hC f x)
theorem O3_of {R C D : ℕ} {m : Memref sig .tc sp ⟨3, ![R, C, D]⟩ e} (hR : 0 < R) (hC : 0 < C) (hD : 0 < D)
    (f : (⟨3, ![R, C, D]⟩ : Shape).Idx → Elt F e) :
    (own (d : Thread nD τ) m (fun _ => True) f : sProp 𝕄) ⊢ O3 d m T3 (arr3 hR hC hD f) := by
  unfold O3
  exact own_val _ fun x _ => (arr3_eq hR hC hD f x).symm

/-! ## Scratch -/

theorem any1_in {m : Memref sig .tc .vmem ⟨1, ![1026]⟩ .f32} {ι : Type} {P : ι → sProp (MT nD τ sig Unit (Elt F) ℕ (Pipeline.UD sig nD τ) ℕ)}
    (g : ι → (⟨1, ![1026]⟩ : Shape).Idx → Elt F .f32) (h : ∀ f, P f ⊢ own (d : Thread nD τ) m (fun _ => True) (g f)) :
    iprop(∃ f, P f) ⊢ Any1 d m := by
  iintro ⟨%f, H⟩
  have h' := (h f).trans (O1_of (d := d) (by decide) (g f))
  ihave H := h' $$ H
  unfold Any1
  iexists _
  iexact H
theorem any2_in {R C : ℕ} (hR : 0 < R) (hC : 0 < C) {m : Memref sig .tc .vmem ⟨2, ![R, C]⟩ e} {ι : Type}
    {P : ι → sProp (MT nD τ sig Unit (Elt F) ℕ (Pipeline.UD sig nD τ) ℕ)}
    (g : ι → (⟨2, ![R, C]⟩ : Shape).Idx → Elt F e) (h : ∀ f, P f ⊢ own (d : Thread nD τ) m (fun _ => True) (g f)) :
    iprop(∃ f, P f) ⊢ Any d m := by
  iintro ⟨%f, H⟩
  have h' := (h f).trans (O2_of (d := d) hR hC (g f))
  ihave H := h' $$ H
  unfold Any
  iexists _
  iexact H
theorem any3_in {R C D : ℕ} (hR : 0 < R) (hC : 0 < C) (hD : 0 < D) {m : Memref sig .tc sp ⟨3, ![R, C, D]⟩ e} {ι : Type}
    {P : ι → sProp (MT nD τ sig Unit (Elt F) ℕ (Pipeline.UD sig nD τ) ℕ)}
    (g : ι → (⟨3, ![R, C, D]⟩ : Shape).Idx → Elt F e) (h : ∀ f, P f ⊢ own (d : Thread nD τ) m (fun _ => True) (g f)) :
    iprop(∃ f, P f) ⊢ iprop(∃ A, O3 d m T3 A) := by
  iintro ⟨%f, H⟩
  have h' := (h f).trans (O3_of (d := d) hR hC hD (g f))
  ihave H := h' $$ H
  iexists _
  iexact H

theorem any1_out {m : Memref sig .tc .vmem ⟨1, ![1026]⟩ .f32} {ι : Type} {P : ι → sProp (MT nD τ sig Unit (Elt F) ℕ (Pipeline.UD sig nD τ) ℕ)}
    (g : ((⟨1, ![1026]⟩ : Shape).Idx → Elt F .f32) → ι) (h : ∀ φ, own (d : Thread nD τ) m (fun _ => True) φ ⊢ P (g φ)) :
    Any1 d m ⊢ iprop(∃ f, P f) := by
  unfold Any1 O1
  iintro ⟨%A, H⟩
  iexists _
  iapply (h _)
  iexact H
theorem any2_out {R C : ℕ} {m : Memref sig .tc .vmem ⟨2, ![R, C]⟩ e} {ι : Type} {P : ι → sProp (MT nD τ sig Unit (Elt F) ℕ (Pipeline.UD sig nD τ) ℕ)}
    (g : ((⟨2, ![R, C]⟩ : Shape).Idx → Elt F e) → ι) (h : ∀ φ, own (d : Thread nD τ) m (fun _ => True) φ ⊢ P (g φ)) :
    Any d m ⊢ iprop(∃ f, P f) := by
  unfold Any O2
  iintro ⟨%A, H⟩
  iexists _
  iapply (h _)
  iexact H
theorem any3_out {R C D : ℕ} {m : Memref sig .tc sp ⟨3, ![R, C, D]⟩ e} {ι : Type} {P : ι → sProp (MT nD τ sig Unit (Elt F) ℕ (Pipeline.UD sig nD τ) ℕ)}
    (g : ((⟨3, ![R, C, D]⟩ : Shape).Idx → Elt F e) → ι) (h : ∀ φ, own (d : Thread nD τ) m (fun _ => True) φ ⊢ P (g φ)) :
    iprop(∃ A, O3 d m T3 A) ⊢ iprop(∃ f, P f) := by
  unfold O3
  iintro ⟨%A, H⟩
  iexists _
  iapply (h _)
  iexact H

variable (d)

/-- The buffers of the kernel. -/
def ScrB : sProp 𝕄 :=
  iprop((Any d bX ∗ Any d bW ∗ Any d bXs ∗ Any1 d bWs ∗ Any1 d bB ∗ Any d cW ∗ Any d cB)
    ∗ (Any d (bH 0) ∗ Any d (bH 1)) ∗ (Any d (bS 0) ∗ Any d (bS 1)) ∗ AnyO d)

abbrev Scr0 : sProp 𝕄 :=
  Pipeline.scopedRest (Ix := Unit) (Name := ℕ) (U := Pipeline.UD sig nD τ) (Lvl := ℕ) (Val := Elt F) (cfg0.spec) d

variable {d}

theorem scr_in : Scr0 (F := F) d ⊢ (ScrB d : sProp 𝕄) := by
  unfold Scr0
  rw [Gen.scopedRest0_eq]
  unfold ScrB AnyO
  iintro ⟨H0, H1, H2, H3, H4, H5, H6, H7, H8, H9, H10, H11⟩
  isplitl [H0 H1 H2 H3 H4 H5 H6]
  · isplitl [H0]; · iapply (any2_in (d := d) (m := bX) (by decide) (by decide) (fun f => f) (fun f => own_whole (c := (d : Thread nD τ)) cc0_scratch0 f)); iexact H0
    isplitl [H1]; · iapply (any2_in (d := d) (m := bW) (by decide) (by decide) (fun f => f) (fun f => own_whole (c := (d : Thread nD τ)) cc0_scratch1 f)); iexact H1
    isplitl [H2]; · iapply (any2_in (d := d) (m := bXs) (by decide) (by decide) (fun f => f) (fun f => own_whole (c := (d : Thread nD τ)) cc0_scratch2 f)); iexact H2
    isplitl [H3]; · iapply (any1_in (d := d) (m := bWs) (fun f => f) (fun f => own_whole (c := (d : Thread nD τ)) cc0_scratch3 f)); iexact H3
    isplitl [H4]; · iapply (any1_in (d := d) (m := bB) (fun f => f) (fun f => own_whole (c := (d : Thread nD τ)) cc0_scratch4 f)); iexact H4
    isplitl [H5]; · iapply (any2_in (d := d) (m := cW) (by decide) (by decide) (fun f => f) (fun f => own_whole (c := (d : Thread nD τ)) cc0_scratch5 f)); iexact H5
    iapply (any2_in (d := d) (m := cB) (by decide) (by decide) (fun f => f) (fun f => own_whole (c := (d : Thread nD τ)) cc0_scratch6 f)); iexact H6
  isplitl [H7 H8]
  · isplitl [H7]; · iapply (any2_in (d := d) (m := bH 0) (by decide) (by decide) (fun f => f) (fun f => own_whole (c := (d : Thread nD τ)) cc0_scratch7 f)); iexact H7
    iapply (any2_in (d := d) (m := bH 1) (by decide) (by decide) (fun f => f) (fun f => own_whole (c := (d : Thread nD τ)) cc0_scratch8 f)); iexact H8
  isplitl [H9 H10]
  · isplitl [H9]; · iapply (any2_in (d := d) (m := bS 0) (by decide) (by decide) (fun f => f) (fun f => own_whole (c := (d : Thread nD τ)) cc0_scratch9 f)); iexact H9
    iapply (any2_in (d := d) (m := bS 1) (by decide) (by decide) (fun f => f) (fun f => own_whole (c := (d : Thread nD τ)) cc0_scratch10 f)); iexact H10
  iapply (any3_in (d := d) (m := bO) (by decide) (by decide) (by decide) (fun f => f) (fun f => own_whole (c := (d : Thread nD τ)) cc0_scratch11 f)); iexact H11

theorem scr_out : (ScrB d : sProp 𝕄) ⊢ Scr0 (F := F) d := by
  unfold Scr0
  rw [Gen.scopedRest0_eq]
  unfold ScrB AnyO
  iintro ⟨⟨H0, H1, H2, H3, H4, H5, H6⟩, ⟨H7, H8⟩, ⟨H9, H10⟩, H11⟩
  isplitl [H0]; · iapply (any2_out (d := d) (m := bX) (fun f => f) (fun f => own_unwhole (c := (d : Thread nD τ)) cc0_scratch0 f)); iexact H0
  isplitl [H1]; · iapply (any2_out (d := d) (m := bW) (fun f => f) (fun f => own_unwhole (c := (d : Thread nD τ)) cc0_scratch1 f)); iexact H1
  isplitl [H2]; · iapply (any2_out (d := d) (m := bXs) (fun f => f) (fun f => own_unwhole (c := (d : Thread nD τ)) cc0_scratch2 f)); iexact H2
  isplitl [H3]; · iapply (any1_out (d := d) (m := bWs) (fun f => f) (fun f => own_unwhole (c := (d : Thread nD τ)) cc0_scratch3 f)); iexact H3
  isplitl [H4]; · iapply (any1_out (d := d) (m := bB) (fun f => f) (fun f => own_unwhole (c := (d : Thread nD τ)) cc0_scratch4 f)); iexact H4
  isplitl [H5]; · iapply (any2_out (d := d) (m := cW) (fun f => f) (fun f => own_unwhole (c := (d : Thread nD τ)) cc0_scratch5 f)); iexact H5
  isplitl [H6]; · iapply (any2_out (d := d) (m := cB) (fun f => f) (fun f => own_unwhole (c := (d : Thread nD τ)) cc0_scratch6 f)); iexact H6
  isplitl [H7]; · iapply (any2_out (d := d) (m := bH 0) (fun f => f) (fun f => own_unwhole (c := (d : Thread nD τ)) cc0_scratch7 f)); iexact H7
  isplitl [H8]; · iapply (any2_out (d := d) (m := bH 1) (fun f => f) (fun f => own_unwhole (c := (d : Thread nD τ)) cc0_scratch8 f)); iexact H8
  isplitl [H9]; · iapply (any2_out (d := d) (m := bS 0) (fun f => f) (fun f => own_unwhole (c := (d : Thread nD τ)) cc0_scratch9 f)); iexact H9
  isplitl [H10]; · iapply (any2_out (d := d) (m := bS 1) (fun f => f) (fun f => own_unwhole (c := (d : Thread nD τ)) cc0_scratch10 f)); iexact H10
  iapply (any3_out (d := d) (m := bO) (fun f => f) (fun f => own_unwhole (c := (d : Thread nD τ)) cc0_scratch11 f)); iexact H11

/-! ## Semaphores -/

/-- The kernel's semaphores. -/
def osem0 : Fin 89 → SemLoc sig := fun j => .dma (cell j.val)

theorem semW_inj : Function.Injective semW := fun a b h => by
  unfold semW at h; split at h <;> split at h <;> omega
theorem semX_inj : Function.Injective semX := fun a b h => by
  unfold semX at h; split at h <;> split at h <;> omega
theorem add_inj : Function.Injective (fun n : ℕ => 52 + n) := fun a b h => by
  have h : 52 + a = 52 + b := h
  omega

/-- All the cells, by what they are used for. -/
theorem cells_eq : Finset.range 89
    = ({0, 5, 6, 7} : Finset ℕ) ∪ ((Finset.Ico 0 24).map ⟨semW, semW_inj⟩ ∪ ((Finset.Ico 0 24).map ⟨semX, semX_inj⟩
      ∪ ((Finset.Ico 0 21).map ⟨fun n => 52 + n, add_inj⟩ ∪ (({73, 74, 75, 76} : Finset ℕ) ∪ Finset.Ico 77 89)))) := by
  decide +kernel

theorem sems_eq :
    (Pipeline.ownSems0 (Ix := Unit) (Name := ℕ) (U := Pipeline.UD sig nD τ) (Lvl := ℕ) (Val := Elt F) (τ := τ) osem0 d : sProp 𝕄)
      = iprop(SemIn d ∗ SemOut d ∗ bigSep (Finset.Ico 77 89) (fun n => sv d n)) := by
  have e0 : (Pipeline.ownSems0 (Ix := Unit) (Name := ℕ) (U := Pipeline.UD sig nD τ) (Lvl := ℕ) (Val := Elt F) (τ := τ) osem0 d : sProp 𝕄)
      = bigSep (Finset.range 89) (fun n => sv d n) := by
    have h : (Finset.univ : Finset (Fin 89)).map Fin.valEmbedding = Finset.range 89 := by decide +kernel
    rw [← h, bigSep_map]
    rfl
  have e4 : bigSep (Finset.Ico 0 21) (fun n => sv d (52 + 3 * (n / 3 + 1 - 1) + n % 3) : ℕ → sProp 𝕄) = bigSep (Finset.Ico 0 21) (fun n => sv d (52 + n)) :=
    bigSep_congr fun n _ => by
      have : 52 + 3 * (n / 3 + 1 - 1) + n % 3 = 52 + n := by omega
      rw [this]
  have e1 : bigSep ({0, 5, 6, 7} : Finset ℕ) (fun n => (sv d n : sProp 𝕄)) = iprop(sv d 0 ∗ sv d 5 ∗ sv d 6 ∗ sv d 7) := by
    rw [BI.bigSep_eq_bigSepL_of_eq [0, 5, 6, 7] (by decide) (by decide)]; rfl
  have e5 : bigSep ({73, 74, 75, 76} : Finset ℕ) (fun n => (sv d n : sProp 𝕄)) = iprop(sv d 73 ∗ sv d 74 ∗ sv d 75 ∗ sv d 76) := by
    rw [BI.bigSep_eq_bigSepL_of_eq [73, 74, 75, 76] (by decide) (by decide)]; rfl
  have hass : ∀ P Q R' : sProp 𝕄, iprop((P ∗ Q) ∗ R') = iprop(P ∗ Q ∗ R') :=
    fun _ _ _ => Idealize.SL.BI.Entails.antisymm Idealize.SL.BI.sep_assoc Idealize.SL.BI.sep_assoc'
  rw [e0, cells_eq, bigSep_union (by decide +kernel), bigSep_union (by decide +kernel), bigSep_union (by decide +kernel),
    bigSep_union (by decide +kernel), bigSep_union (by decide +kernel), bigSep_map, bigSep_map, bigSep_map, e1, e5]
  unfold SemIn SemOut
  rw [e4, hass iprop(sv d 0 ∗ sv d 5 ∗ sv d 6 ∗ sv d 7), hass (bigSep (Finset.Ico 0 24) fun n => sv d (semW n)),
    hass (bigSep (Finset.Ico 0 24) fun n => sv d (semX n))]
  rfl

end Cert.KernelIdeal
-- ==== Proof.Main.lean ====
/- The run of the kernel: what it leaves in its result, at any values of the elements. -/
module

public import proofs.«01_k».proof.Proof.Scr
public import proofs.«01_k».proof.Proof.Gen.KernelIdeal.Frame
public import proofs.«01_k».proof.Proof.Gen.KernelIdeal.Points

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds -/

/-- The codes of the rows. -/
def xA (c : Dev nD) : ℕ → ℕ → Elt F .fp8e4m3 := arr2 (R := 1920) (C := 6144) (by decide) (by decide) (Gen.V m c main_v3)
/-- The codes of the weights. -/
def wA (c : Dev nD) : ℕ → ℕ → Elt F .fp8e4m3 := arr2 (R := 1032) (C := 6144) (by decide) (by decide) (Gen.V m c main_v2)
/-- The scales of the rows. -/
def sA (c : Dev nD) : ℕ → ℕ → Elt F .f32 := arr2 (R := 3) (C := 640) (by decide) (by decide) (Gen.V m c main_arg1)
/-- The scales of the weights. -/
def gA (c : Dev nD) : ℕ → Elt F .f32 := arr1 (R := 1026) (by decide) (Gen.V m c main_arg3)
/-- The biases. -/
def bA (c : Dev nD) : ℕ → Elt F .f32 := arr1 (R := 1026) (by decide) (Gen.V m c main_arg4)

/-- What the kernel only reads, -/
def H0 : Finset (Ref sig .tc) := {main_arg1, main_v2, main_v3, main_arg3, main_arg4}
/-- and what it writes. -/
def R0 : Finset (Ref sig .tc) := {main_v4}

theorem H0_sub : H0 ⊆ Pipeline.restRefs sig (cfg0.spec) := by decide
theorem R0_sub : R0 ⊆ Pipeline.restRefs sig (cfg0.spec) \ H0 := by decide
theorem ownSemFacts0 : Pipeline.OwnSemFacts (cfg0.spec) osem0 := by decide +kernel

/-- The operands the kernel reads. -/
def Hbm (c : Dev nD) : sProp 𝕄 := iprop(O2 c aX T2 (xA m c) ∗ O2 c aWt T2 (wA m c) ∗ Src c (sA m c) (gA m c) (bA m c))

theorem H0_eq (c : Dev nD) :
    (bigSep H0 (fun b => ((c : Thread nD τ).loc b) ↦{fullShare} Gen.V m c b) : sProp 𝕄)
      = iprop((((c : Thread nD τ).loc main_arg1) ↦{fullShare} Gen.V m c main_arg1) ∗ (((c : Thread nD τ).loc main_v2) ↦{fullShare} Gen.V m c main_v2)
        ∗ (((c : Thread nD τ).loc main_v3) ↦{fullShare} Gen.V m c main_v3) ∗ (((c : Thread nD τ).loc main_arg3) ↦{fullShare} Gen.V m c main_arg3)
        ∗ (((c : Thread nD τ).loc main_arg4) ↦{fullShare} Gen.V m c main_arg4)) := by
  rw [BI.bigSep_eq_bigSepL_of_eq [main_arg1, main_v2, main_v3, main_arg3, main_arg4] (by decide) (by decide)]; rfl

theorem hbm_in (c : Dev nD) :
    (bigSep H0 (fun b => ((c : Thread nD τ).loc b) ↦{fullShare} Gen.V m c b) : sProp 𝕄) ⊢ Hbm m c := by
  rw [H0_eq]
  unfold Hbm Src xA wA sA gA bA
  iintro ⟨H1, H2, H3, H4, H5⟩
  isplitl [H3]
  · iapply ((own_whole (c := (c : Thread nD τ)) main_v3 (Gen.V m c main_v3)).trans (O2_of (d := c) (m := aX) _ _ _)); iexact H3
  isplitl [H2]
  · iapply ((own_whole (c := (c : Thread nD τ)) main_v2 (Gen.V m c main_v2)).trans (O2_of (d := c) (m := aWt) _ _ _)); iexact H2
  isplitl [H1]
  · iapply ((own_whole (c := (c : Thread nD τ)) main_arg1 (Gen.V m c main_arg1)).trans (O2_of (d := c) (m := aXs) _ _ _)); iexact H1
  isplitl [H4]
  · iapply ((own_whole (c := (c : Thread nD τ)) main_arg3 (Gen.V m c main_arg3)).trans (O1_of (d := c) (m := aWs) _ _)); iexact H4
  iapply ((own_whole (c := (c : Thread nD τ)) main_arg4 (Gen.V m c main_arg4)).trans (O1_of (d := c) (m := aB) _ _)); iexact H5

theorem hbm_out (c : Dev nD) :
    Hbm m c ⊢ (bigSep H0 (fun b => ((c : Thread nD τ).loc b) ↦{fullShare} Gen.V m c b) : sProp 𝕄) := by
  rw [H0_eq]
  unfold Hbm Src xA wA sA gA bA
  iintro ⟨H3, H2, H1, H4, H5⟩
  isplitl [H1]
  · iapply ((O2_to (d := c) (m := aXs) _ _ _).trans (own_unwhole (c := (c : Thread nD τ)) main_arg1 (Gen.V m c main_arg1))); iexact H1
  isplitl [H2]
  · iapply ((O2_to (d := c) (m := aWt) _ _ _).trans (own_unwhole (c := (c : Thread nD τ)) main_v2 (Gen.V m c main_v2))); iexact H2
  isplitl [H3]
  · iapply ((O2_to (d := c) (m := aX) _ _ _).trans (own_unwhole (c := (c : Thread nD τ)) main_v3 (Gen.V m c main_v3))); iexact H3
  isplitl [H4]
  · iapply ((O1_to (d := c) (m := aWs) _ _).trans (own_unwhole (c := (c : Thread nD τ)) main_arg3 (Gen.V m c main_arg3))); iexact H4
  iapply ((O1_to (d := c) (m := aB) _ _).trans (own_unwhole (c := (c : Thread nD τ)) main_arg4 (Gen.V m c main_arg4))); iexact H5

/-! ## The body at its one point -/

/-- The rows of weights that are copied. -/
def agrees (c : Dev nD) (Wb : ℕ → ℕ → Elt F .fp8e4m3) : Prop := ∀ x y, x < 1032 → Wb x y = wA m c x y

/-- What the point starts from: everything, with the result's array at any contents. -/
def PhiIn (c : Dev nD) : sProp 𝕄 :=
  iprop(Scr0 c ∗ (∃ r, prngReg c r)
    ∗ Pipeline.ownSems0 (Ix := Unit) (Name := ℕ) (U := Pipeline.UD sig nD τ) (Lvl := ℕ) (Val := Elt F) (τ := τ) osem0 c
    ∗ Hbm m c ∗ ∃ J, O3 c aO T3 J)

/-- What it ends with: the result's array at the spectrum of the rows, for some filling of the weights that are not copied. -/
def PhiOut (c : Dev nD) : sProp 𝕄 :=
  iprop(Scr0 c ∗ (∃ r, prngReg c r)
    ∗ Pipeline.ownSems0 (Ix := Unit) (Name := ℕ) (U := Pipeline.UD sig nD τ) (Lvl := ℕ) (Val := Elt F) (τ := τ) osem0 c
    ∗ Hbm m c ∗ ∃ Wb : ℕ → ℕ → Elt F .fp8e4m3, ⌜agrees m c Wb⌝ ∗ O3 c aO T3 (Res (xA m c) Wb (sA m c) (gA m c) (bA m c)))

/-- What the body leaves alone. -/
def Aside (c : Dev nD) : sProp 𝕄 := iprop((∃ r, prngReg c r) ∗ bigSep (Finset.Ico 77 89) (fun n => sv c n))

theorem open_in (c : Dev nD) :
    iprop(PhiIn m c ∗ OW c) ⊢ iprop(∃ Wb : ℕ → ℕ → Elt F .fp8e4m3, ⌜agrees m c Wb⌝ ∗ PreB c (xA m c) Wb (sA m c) (gA m c) (bA m c) ∗ Aside c) := by
  unfold PhiIn
  rw [sems_eq]
  unfold PreB Pre0 Hbm Aside
  iintro ⟨⟨HS, Hp, ⟨Hi, Ho, Hz⟩, ⟨HX, HW, HC⟩, HO⟩, HL⟩
  ihave HS := scr_in $$ HS
  unfold ScrB
  icases HS with ⟨⟨H0, H1, H2⟩, H3⟩
  unfold Any
  icases H1 with ⟨%J, H1⟩
  have hW : (O2 c aWt T2 (wA m c) : sProp 𝕄) ⊢ O2 c aWt T2 (fun x y => if x < 1032 then wA m c x y else J x y) :=
    O2_val c fun x y hx _ _ => (if_pos hx).symm
  ihave HW := hW $$ HW
  iexists (fun x y => if x < 1032 then wA m c x y else J x y)
  isplitr
  · ipureintro; exact fun x y hx => if_pos hx
  isplitr [Hp Hz]
  · isplitl [HX HW HC H0 H1 H2 Hi HL]
    · isplitl [HX HW HC]
      · isplitl [HX]; · iexact HX
        isplitl [HW]; · iexact HW
        iexact HC
      isplitl [H0 H1]
      · isplitl [H0]; · iexact H0
        iexists J
        isplitr
        · ipureintro; exact fun x y hx _ _ => (if_neg (by omega)).symm
        iexact H1
      isplitl [H2]; · iexact H2
      isplitl [Hi]; · iexact Hi
      iexact HL
    isplitl [H3]; · iexact H3
    isplitl [HO]; · iexact HO
    iexact Ho
  isplitl [Hp]; · iexact Hp
  iexact Hz

theorem close_out (c : Dev nD) {Wb : ℕ → ℕ → Elt F .fp8e4m3} (h : agrees m c Wb) :
    iprop(PostB c (xA m c) Wb (sA m c) (gA m c) (bA m c) ∗ Aside c) ⊢ iprop(PhiOut m c ∗ OW c) := by
  have hW : (O2 c aWt T2 Wb : sProp 𝕄) ⊢ O2 c aWt T2 (wA m c) := O2_val c fun x y hx _ _ => h x y hx
  unfold PhiOut
  rw [sems_eq]
  unfold PostB Hbm Aside
  iintro ⟨⟨⟨HX, HW, HC⟩, HO, ⟨H0, H1⟩, H3, Hi, Ho, HL⟩, Hp, Hz⟩
  ihave HW := hW $$ HW
  isplitr [HL]
  · isplitl [H0 H1 H3]
    · iapply scr_out
      unfold ScrB
      isplitl [H0 H1]
      · isplitl [H0]; · iexact H0
        iexact H1
      iexact H3
    isplitl [Hp]; · iexact Hp
    isplitl [Hi Ho Hz]
    · isplitl [Hi]; · iexact Hi
      isplitl [Ho]; · iexact Ho
      iexact Hz
    isplitl [HX HW HC]
    · isplitl [HX]; · iexact HX
      isplitl [HW]; · iexact HW
      iexact HC
    iexists Wb
    isplitr
    · ipureintro; exact h
    iexact HO
  iexact HL

theorem body_run (c : Dev nD) (t : Fin cfg0.N) :
    iprop(PhiIn m c ∗ OW c)
      ⊢ WP (defs₀ (F := F)) c (Gen.bodyAt0 t) (fun _ => iprop(PhiOut m c ∗ OW c)) := by
  unfold Gen.bodyAt0
  rw [body_eq]
  iintro H
  ihave H := open_in m c $$ H
  icases H with ⟨%Wb, %hW, H, Ha⟩
  iapply (wp_body (d := c) (defs := defs₀ (F := F))) $$ H
  iintro %s ⟨%hs, H⟩
  unfold WP
  iapply (Mxu.wp_exit (u := s) (defs := defs₀ (F := F)) (𝒱 := Variants.none) (c := (c : Thread nD τ)) (bd := none) (E := Set.univ) hs.drained)
  rw [wp_ret]
  imodintro
  iapply (close_out m c hW)
  isplitl [H]; · iexact H
  iexact Ha

/-! ## The proof data -/

def Phi (c : Dev nD) (n : ℕ) : sProp 𝕄 := if n = 0 then PhiIn m c else PhiOut m c
theorem Phi_zero (c : Dev nD) : Phi m c 0 = PhiIn m c := by unfold Phi; exact if_pos rfl
theorem Phi_succ (c : Dev nD) (n : ℕ) : Phi m c (n + 1) = PhiOut m c := by unfold Phi; exact if_neg (Nat.succ_ne_zero n)

def dats (_ : Fin 1) (c : Dev nD) : Pipeline.Dat τ (Elt F) Unit ℕ (Pipeline.UD sig nD τ) ℕ cfg0 c where
  A w := Gen.V m c (Pipeline.arrRef (cfg0.spec) w)
  after w t := w.elim0
  Φ t := Phi m c t.val
  q _ := fullShare
  owed _ := 0

theorem A_eq (c : Dev nD) (w : Fin cfg0.W) : (dats m 0 c).A w = Gen.V m c (Pipeline.arrRef (cfg0.spec) w) := w.elim0

theorem sound_body (c : Dev nD) (t : Fin cfg0.N) :
    iprop((dats m 0 c).Φ t.castSucc ∗ (dats m 0 c).owesAt () t.castSucc)
      ⊢ wp frame (wpE (defs₀ (F := F)) Variants.none (c : Thread nD τ) none) Set.univ (Gen.bodyAt0 t)
        (fun _ => iprop((dats m 0 c).Φ t.succ ∗ (dats m 0 c).owesAt () t.succ)) := by
  have ht : t.castSucc.val = 0 := by
    have := t.isLt
    have hN : cfg0.N = 1 := Gen.N_0
    show t.val = 0
    omega
  have e0 : (dats m 0 c).Φ t.castSucc = PhiIn m c := by
    show Phi m c t.castSucc.val = _
    rw [ht, Phi_zero]
  have e1 : (dats m 0 c).Φ t.succ = PhiOut m c := by
    show Phi m c (t.val + 1) = _
    rw [Phi_succ]
  rw [e0, e1]
  unfold Pipeline.Dat.owesAt Pipeline.owesWithin
  rw [show (dats m 0 c).owed t.castSucc = 0 from rfl, show (dats m 0 c).owed t.succ = 0 from rfl]
  refine triple_restated (body_run m c t) rfl ?_ fun _ => ?_
  · unfold OW
    iintro ⟨H, ⟨%W, -, HW⟩⟩
    isplitl [H]; · iexact H
    iexists W
    iexact HW
  · unfold OW
    iintro ⟨H, ⟨%W, HW⟩⟩
    isplitl [H]; · iexact H
    iexists W
    isplitr
    · ipureintro; exact fun _ _ => Or.inl trivial
    iexact HW

theorem defs₀_row (t : Fin cfg0.N) : defs₀ (F := F) .tc cfg0.body (cfg0.bodyArgs t (cfg0.slots t)) = Gen.bodyAt0 t := by
  unfold defs₀; rw [Defs.onTc_tc]

theorem none_W (Φ : Fin cfg0.W → sProp (MT nD τ sig Unit (Elt F) ℕ (Pipeline.UD sig nD τ) ℕ)) : bigSep Finset.univ Φ = BI.emp := by
  have : (Finset.univ : Finset (Fin cfg0.W)) = ∅ := Finset.eq_empty_of_forall_notMem fun w => w.elim0
  rw [this, bigSep_empty]

theorem body_obligation (c : Dev nD) : Pipeline.BodyObligation (dats (F := F) m 0 c) (defs₀ (F := F)) Variants.none () Set.univ := fun t => by
  rw [none_W, none_W, defs₀_row]
  refine triple_restated (sound_body m c t) rfl ?_ fun _ => ?_
  · iintro ⟨H, HW, -⟩
    isplitl [H]; · iexact H
    iexact HW
  · iintro ⟨H, HW⟩
    isplitl [H]; · iexact H
    isplitl [HW]; · iexact HW
    exact .rfl

/-! ## The run -/

/-- The operands the kernel writes, at any contents. -/
theorem owned_in (c : Dev nD) : (Pipeline.owned R0 c : sProp 𝕄) ⊢ iprop(∃ J, O3 c aO T3 J) := by
  unfold Pipeline.owned
  rw [BI.bigSep_eq_bigSepL_of_eq (S := R0) [main_v4] (by decide) (by decide)]
  exact any3_in (d := c) (m := aO) (by decide) (by decide) (by decide) (fun f => f) (fun f => own_whole (c := (c : Thread nD τ)) main_v4 f)

theorem owned_out (c : Dev nD) : iprop(∃ J, O3 c aO T3 J) ⊢ (Pipeline.owned R0 c : sProp 𝕄) := by
  unfold Pipeline.owned
  rw [BI.bigSep_eq_bigSepL_of_eq (S := R0) [main_v4] (by decide) (by decide)]
  exact any3_out (d := c) (m := aO) (fun f => f) (fun f => own_unwhole (c := (c : Thread nD τ)) main_v4 f)

theorem phi_in (c : Dev nD) : (Pipeline.ΦDR osem0 (cfg0.spec) H0 R0 (Gen.V m) c : sProp 𝕄) ⊢ PhiIn m c := by
  rw [Pipeline.ΦDR_eq]
  unfold PhiIn
  iintro ⟨H1, H2, H3, H4, H5⟩
  isplitl [H1]; · iexact H1
  isplitl [H2]; · iexact H2
  isplitl [H3]; · iexact H3
  isplitl [H4]; · iapply (hbm_in m c); iexact H4
  iapply (owned_in c)
  iexact H5

theorem phi_out (c : Dev nD) : PhiOut m c ⊢ (Pipeline.ΦDR osem0 (cfg0.spec) H0 R0 (Gen.V m) c : sProp 𝕄) := by
  rw [Pipeline.ΦDR_eq]
  unfold PhiOut
  iintro ⟨H1, H2, H3, H4, %Wb, -, H5⟩
  isplitl [H1]; · iexact H1
  isplitl [H2]; · iexact H2
  isplitl [H3]; · iexact H3
  isplitl [H4]; · iapply (hbm_out m c); iexact H4
  iapply (owned_out c)
  iexists _
  iexact H5

theorem last_eq (c : Dev nD) : (dats m 0 c).Φ (Fin.last cfg0.N) = PhiOut m c := by
  show Phi m c (Fin.last cfg0.N).val = _
  have h : (Fin.last cfg0.N).val = 0 + 1 := Gen.N_0
  rw [h, Phi_succ]

set_option maxHeartbeats 800000 in
theorem hmain : Pipeline.HMain (Ix := Unit) (Name := ℕ) (U := Pipeline.UD sig nD τ) (Lvl := ℕ) cfgs 0 defs₀ Variants.none m (main (F := F)) (Gen.V m) :=
  Pipeline.hmain_prefix cfgs 0 defs₀ Variants.none m main Gen.hostOps0 Gen.hostOps0_sub Gen.hostOps0_fresh Gen.main_chain

set_option backward.isDefEq.respectTransparency.types false in
theorem run_frame : θ_run defs (onTc (τ := τ) (main (F := F))) ⟨m, fun _ => 0, ρ⟩
    (fun r => Pipeline.FramePostR cfgs (dats m) 0 R0 (Gen.V m) r ∧ r.2.sem = fun _ => 0) :=
  Pipeline.θ_run_frame_dmaR (Q' := _) cfgs (dats m) (0 : Fin 1) Gen.launch0 osem0 defs₀ Variants.none ownSemFacts0 H0 R0 H0_sub R0_sub m ρ main
    (hbody := fun c => (body_obligation m c).loose) (hshare := fun c => (dats m 0 c).share_full fun _ => rfl)
    (howed := fun _ _ => rfl) (V := Gen.V m) (hmain := hmain m) (hA := A_eq m)
    (hin := fun c => by
      have h : (dats m 0 c).Φ 0 = PhiIn m c := Phi_zero m c
      rw [h]; exact phi_in m c)
    (hout := fun c => by rw [last_eq]; exact phi_out m c)

/-- The kernel runs, leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (Gen.V_main_arg0 m c),
      ((h.1 c).2 main_arg1 (Finset.mem_sdiff.mpr ⟨Pipeline.mem_restRefs_of main_arg1 (by decide) (by decide), by decide⟩)).trans (Gen.V_main_arg1 m c),
      ((h.1 c).2 main_arg2 (Finset.mem_sdiff.mpr ⟨Pipeline.mem_restRefs_of main_arg2 (by decide) (by decide), by decide⟩)).trans (Gen.V_main_arg2 m c),
      ((h.1 c).2 main_arg3 (Finset.mem_sdiff.mpr ⟨Pipeline.mem_restRefs_of main_arg3 (by decide) (by decide), by decide⟩)).trans (Gen.V_main_arg3 m c),
      ((h.1 c).2 main_arg4 (Finset.mem_sdiff.mpr ⟨Pipeline.mem_restRefs_of main_arg4 (by decide) (by decide), by decide⟩)).trans (Gen.V_main_arg4 m c)⟩,
    h.2⟩) (run_frame m ρ)

end Cert.KernelIdeal
-- ==== Proof.Same.lean ====
/- The kernel as written and its reading over the reals are one text: what is proved of one is proved of the other. -/
module

public import proofs.«01_k».proof.Defs
public import proofs.«01_k».proof.Proof.Main
public import proofs.«01_k».proof.Proof.Gen.Kernel
public import Idealize.ShloMosaic.Lib.Tactic
public import Idealize.ShloMosaic.PureOps.BitExact

@[expose] public section

noncomputable section

namespace Cert.Proof

open Idealize.ShloMosaic Idealize.SL.Sem

/-- The frame claim of the kernel, said of the other reading's program at the machine's values. -/
theorem same : quiescent_Kernel (hKernel := Cert.Kernel.Gen.facts)
    = ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) := by
  sl_kernel_rfl

theorem kernel_frame : quiescent_Kernel (hKernel := Cert.Kernel.Gen.facts) := by
  rw [same]
  exact fun m g _ => Cert.KernelIdeal.frame m g

end Cert.Proof
-- ==== Proof.Host.lean ====
/- What the kernel's region finds, in terms of the arguments: the rows of frames, and the rows of weights below 1026. -/
module

public import proofs.«01_k».proof.Proof.Main
public import Idealize.ShloMosaic.Lib.Pointwise

@[expose] public section

noncomputable section

namespace Cert.KernelIdeal

open Idealize.ShloMosaic Idealize.ShloMosaic.TcCoe
open Cert.KernelIdeal.Gen (V)

variable {F : FTy → Type} [FloatOps F]
variable (m : (ℓ : Loc nD τ sig) → Buf (Elt F) ℓ) (c : Dev nD)

theorem V_v3 : V m c main_v3 = shapeCast S1920x6144 (m ((c : Thread nD τ).loc main_arg0)) Gen.shapeCasts_S3x640x6144_S1920x6144 := rfl

theorem V_v2 : V m c main_v2 = concatenate S1032x6144 0
    [⟨S1026x6144, transpose S1026x6144 [1, 0] (m ((c : Thread nD τ).loc main_arg2)) Gen.transposes_S6144x1026_S1026x6144_1_0⟩,
     ⟨S6x6144, extractStridedSlice S6x6144 ![0, 0] (transpose S1026x6144 [1, 0] (m ((c : Thread nD τ).loc main_arg2)) Gen.transposes_S6144x1026_S1026x6144_1_0) Gen.slices_S1026x6144_S6x6144_0_0⟩]
    Gen.concatenates_S1026x6144_S6x6144_S1032x6144_d0 := rfl

/-- Row `640 b + z` of the frames is frame `z` of batch `b`. -/
theorem xA_eq (b : Fin 3) (z : Fin 640) (k : ℕ) : xA m c (640 * b.val + z.val) k
    = (m ((c : Thread nD τ).loc main_arg0) : Vec F S3x640x6144 .fp8e4m3) (ix3 b z ⟨k % 6144, Nat.mod_lt _ (by decide)⟩) := by
  have hb := b.isLt
  have hz := z.isLt
  unfold xA arr2
  rw [V_v3]
  generalize (m ((c : Thread nD τ).loc main_arg0) : Vec F S3x640x6144 .fp8e4m3) = v
  show shapeCast S1920x6144 v Gen.shapeCasts_S3x640x6144_S1920x6144 _ = _
  unfold shapeCast
  refine congrArg v (Shape.reshapeEquiv_eq_of_rowMajor _ ?_)
  refine (Shape.rowMajor_val_three (d := ![3, 640, 6144]) _).trans (Eq.trans ?_ (Shape.rowMajor_val_two (d := ![1920, 6144]) _).symm)
  show (b.val * 640 + z.val) * 6144 + k % 6144 = (640 * b.val + z.val) % 1920 * 6144 + k % 6144
  omega

/-- Row `r` of the weights is column `r` of the argument. -/
theorem wA_eq {r : ℕ} (hr : r < 1026) (k : ℕ) : wA m c r k
    = (m ((c : Thread nD τ).loc main_arg2) : Vec F S6144x1026 .fp8e4m3)
        (ix2 ⟨k % 6144, Nat.mod_lt _ (by decide)⟩ ⟨r % 1026, Nat.mod_lt _ (by decide)⟩) := by
  have e : wA m c r k = (V m c main_v2 : Vec F S1032x6144 .fp8e4m3)
      (ix2 ⟨r % 1032, Nat.mod_lt _ (by decide)⟩ ⟨k % 6144, Nat.mod_lt _ (by decide)⟩) := by
    unfold wA arr2
    refine congrArg (V m c main_v2 : Vec F S1032x6144 .fp8e4m3) ?_
    funext a
    match a with
    | ⟨0, _⟩ => rfl
    | ⟨1, _⟩ => rfl
  rw [e, V_v2, concatenate_pair_apply]
  have hlt : r % 1032 < 1026 := by omega
  refine (dif_pos hlt).trans ?_
  refine congrArg (m ((c : Thread nD τ).loc main_arg2) : Vec F S6144x1026 .fp8e4m3) ?_
  funext a
  match a with
  | ⟨0, _⟩ => exact Fin.ext rfl
  | ⟨1, _⟩ => exact Fin.ext (show r % 1032 = r % 1026 by omega)

theorem sA_eq (b : Fin 3) (z : Fin 640) : sA m c b.val z.val = (m ((c : Thread nD τ).loc main_arg1) : Vec F S3x640 .f32) (ix2 b z) := by
  unfold sA
  rw [Gen.V_main_arg1]
  exact arr2_eq _ _ _ (ix2 b z)

theorem gA_eq (r : ℕ) : gA m c r = (m ((c : Thread nD τ).loc main_arg3) : Vec F S1026 .f32) (ix1 ⟨r % 1026, Nat.mod_lt _ (by decide)⟩) := by
  unfold gA arr1
  rw [Gen.V_main_arg3]
  refine congrArg (m ((c : Thread nD τ).loc main_arg3) : Vec F S1026 .f32) ?_
  funext a
  match a with
  | ⟨0, _⟩ => rfl

theorem bA_eq (r : ℕ) : bA m c r = (m ((c : Thread nD τ).loc main_arg4) : Vec F S1026 .f32) (ix1 ⟨r % 1026, Nat.mod_lt _ (by decide)⟩) := by
  unfold bA arr1
  rw [Gen.V_main_arg4]
  refine congrArg (m ((c : Thread nD τ).loc main_arg4) : Vec F S1026 .f32) ?_
  funext a
  match a with
  | ⟨0, _⟩ => rfl

end Cert.KernelIdeal

end
-- ==== Proof.Proj.lean ====
/- What a tile's projection is over the extended reals: at each row of weights and each frame, the sum of the 6144 products. -/
module

public import proofs.«01_k».proof.Proof.Tile
public import Idealize.ShloMosaic.Lib.MatmulPlain
public import Idealize.ShloMosaic.PureOps.Ideal.Laws

@[expose] public section

noncomputable section

namespace Cert.KernelIdeal

open Idealize.ShloMosaic Idealize.ShloMosaic.TcCoe
open Cert.Own Cert.Mx
open Shapes1.Facts₀ Shapes2.Facts₀ K0.Facts₀ Facts₀ Facts

variable [Facts]

theorem pass_apply (x : FVec Ideal (Mxu.STile 256) .bf16) (w : FVec Ideal (Mxu.STile 32) .bf16) (r : Fin 32) (c : Fin 256) :
    (Mx.pass x w (Mxu.ix r c) : EReal) = ∑ k ∈ Finset.range 256, w (Mxu.ix r ⟨k % 256, Nat.mod_lt _ (by decide)⟩) * x (Mxu.ix c ⟨k % 256, Nat.mod_lt _ (by decide)⟩) := by
  have e : ∀ {m n : ℕ} (a : Fin m) (b : Fin n), Mxu.ix a b = ValueIdx.ix2 a b := fun a b => by
    funext i
    match i with
    | ⟨0, _⟩ => rfl
    | ⟨1, _⟩ => rfl
  have h := Ideal.matmul_transposedRhs_apply (M := 32) (K := 256) (N := 256) none w x (fun _ => 0) r c
  rw [Finset.sum_range, e]
  have h' : (Mx.pass x w (ValueIdx.ix2 r c) : EReal) = ∑ k : Fin 256, w (ValueIdx.ix2 r k) * x (ValueIdx.ix2 c k) := by
    refine Eq.trans ?_ (h.trans (zero_add _))
    rw [Ideal.matmul_apply]
    exact (zero_add _).symm
  rw [h']
  refine Finset.sum_congr rfl fun k _ => ?_
  have hk : (⟨k.val % 256, Nat.mod_lt _ (by decide)⟩ : Fin 256) = k := Fin.ext (Nat.mod_eq_of_lt k.isLt)
  rw [hk, e, e]

theorem fin_none (i : (Mxu.STile 32).Idx) : (Mx.fin (none : Option (Piece Ideal)) i : EReal) = 0 := Ideal.ofBits_zero_f32

theorem fin_ac (o : Option (Piece Ideal)) (p : Piece Ideal) (i : (Mxu.STile 32).Idx) :
    (Mx.fin (ac o p) i : EReal) = (Mx.fin o i : EReal) + p i := by
  cases o with
  | none => rw [fin_none, zero_add]; rfl
  | some v => rfl

section
variable (xv : ℕ → FVec Ideal (Mxu.STile 256) .bf16) (wv : ℕ → ℕ → FVec Ideal (Mxu.STile 32) .bf16) (i : (Mxu.STile 32).Idx)

theorem pv_sum (row : ℕ) (n : ℕ) : (Mx.fin (Mx.pv xv wv row n) i : EReal) = ∑ k ∈ Finset.range n, (Mx.pass (xv k) (wv row k) i : EReal) := by
  induction n with
  | zero => rw [Finset.sum_range_zero]; exact fin_none i
  | succ n ih => rw [Finset.sum_range_succ, ← ih]; exact fin_ac _ _ i

theorem tv_sum (n : ℕ) : (Mx.fin (Mx.tv xv wv 0 n) i : EReal) + (Mx.fin (Mx.tv xv wv 1 n) i : EReal)
    = ∑ k ∈ Finset.range n, (Mx.pass (xv k) (wv 1024 k) i : EReal) := by
  induction n with
  | zero => rw [Finset.sum_range_zero]; exact (congrArg₂ (· + ·) (fin_none i) (fin_none i)).trans (add_zero _)
  | succ n ih =>
    rw [Finset.sum_range_succ, ← ih]
    have e : ∀ q, Mx.tv xv wv q (n + 1) = if n % 2 = q then ac (Mx.tv xv wv q n) (Mx.pass (xv n) (wv 1024 n)) else Mx.tv xv wv q n := fun _ => rfl
    rw [e, e]
    by_cases h : n % 2 = 0
    · rw [if_pos h, if_neg (by omega), fin_ac]; exact add_right_comm (G := EReal) _ _ _
    · rw [if_neg h, if_pos (by omega), fin_ac]; exact (add_assoc (G := EReal) _ _ _).symm

theorem piece_sum (p : ℕ) (hp : p < 33) (n : ℕ) : (pieceOf (gAt xv wv n) p i : EReal)
    = ∑ k ∈ Finset.range n, (Mx.pass (xv k) (wv (32 * p) k) i : EReal) := by
  unfold pieceOf gAt
  by_cases h : p < 32
  · rw [if_pos h, if_pos (Nat.mod_lt _ (by decide)), pv_sum]
    have e : 512 * (p / 16 % 2) + 32 * (p % 16) = 32 * p := by omega
    show ∑ k ∈ Finset.range n, (Mx.pass (xv k) (wv (512 * (p / 16 % 2) + 32 * (p % 16)) k) i : EReal) = _
    rw [e]
  · have e : p = 32 := by omega
    subst e
    rw [if_neg h]
    exact tv_sum xv wv i n
end

theorem sum_blocks (f : ℕ → EReal) (n : ℕ) :
    ∑ k ∈ Finset.range n, ∑ j ∈ Finset.range 256, f (256 * k + j) = ∑ j ∈ Finset.range (256 * n), f j := by
  induction n with
  | zero => rfl
  | succ n ih => rw [Finset.sum_range_succ, ih, Nat.mul_succ, Finset.sum_range_add]

/-- The projection at row `row` of the weights and lane `lane` of lane group `l`. -/
theorem hT_sum (X Wb : ℕ → ℕ → Elt Ideal .fp8e4m3) (t : ℕ) (l : Fin 2) (row lane : ℕ) (hr : row < 1056) :
    (hT X Wb t l row lane : EReal) = ∑ k ∈ Finset.range 6144, (X (f0 t + (128 * l.val + lane) % 256) k : EReal) * (Wb row k : EReal) := by
  unfold hT hOf
  rw [piece_sum _ _ _ _ (by omega), ← sum_blocks (fun k => (X (f0 t + (128 * l.val + lane) % 256) k : EReal) * (Wb row k : EReal)) 24]
  refine Finset.sum_congr rfl fun k _ => ?_
  rw [pass_apply]
  refine Finset.sum_congr rfl fun j hj => ?_
  have hj' : j % 256 = j := Nat.mod_eq_of_lt (Finset.mem_range.mp hj)
  have e : 32 * (row / 32) + row % 32 = row := by omega
  show (Wb (32 * (row / 32) + row % 32) (256 * k + j % 256) : EReal) * (X (f0 t + (128 * l.val + lane) % 256) (256 * k + j % 256) : EReal) = _
  rw [hj', e]
  exact mul_comm _ _

end Cert.KernelIdeal

end
-- ==== Proof.Spec.lean ====
/- The kernel's result over the extended reals: the scaled projection, and the spectrum of it. -/
module

public import proofs.«01_k».proof.Proof.Proj

@[expose] public section

noncomputable section

namespace Cert

open Idealize.ShloMosaic

/-- The scaled projection: the sum of the products, times the frame's scale and the row's, plus the row's bias. -/
def affOf (X W : ℕ → EReal) (xs ws b : EReal) : EReal := (∑ k ∈ Finset.range 6144, X k * W k) * xs * ws + b

/-- The spectrum's entry `y` from the scaled projection: magnitude times cosine, then magnitude times sine. -/
def spOf (A : ℕ → EReal) (y : ℕ) : EReal :=
  if y < 513 then min (Ideal.exp (A y)) (Ideal.ofBits .f32 0x42C80000#32) * Ideal.cos (A (513 + y))
  else min (Ideal.exp (A (y - 513))) (Ideal.ofBits .f32 0x42C80000#32) * Ideal.sin (A (513 + (y - 513)))

theorem spOf_congr {A B : ℕ → EReal} {y : ℕ} (hy : y < 1026) (h : ∀ r, r < 1026 → A r = B r) : spOf A y = spOf B y := by
  unfold spOf
  by_cases hy' : y < 513
  · rw [if_pos hy', if_pos hy', h _ (by omega), h _ (by omega)]
  · rw [if_neg hy', if_neg hy', h _ (by omega), h _ (by omega)]

namespace KernelIdeal

open Cert.Own Cert.Mx
open Idealize.ShloMosaic.TcCoe

variable [Facts]

theorem soOf_sp (h cw cb : ℕ → ℕ → Elt Ideal .f32) (xs : ℕ → Elt Ideal .f32) (y z : ℕ) :
    (soOf h cw cb xs y z : EReal) = spOf (fun r => (h r z : EReal) * (xs z : EReal) * (cw r z : EReal) + (cb r z : EReal)) y := by
  unfold soOf spOf
  by_cases hy : y < 513
  · rw [if_pos hy, if_pos hy]; rfl
  · rw [if_neg hy, if_neg hy]; rfl

/-- Entry `(b, y, z)` of the result. -/
theorem Res_sp (X Wb : ℕ → ℕ → Elt Ideal .fp8e4m3) (XS : ℕ → ℕ → Elt Ideal .f32) (ws bb : ℕ → Elt Ideal .f32) {b y z : ℕ}
    (hy : y < 1026) (hz : z < 640) :
    (Res X Wb XS ws bb b y z : EReal)
      = spOf (fun r => affOf (fun k => (X (640 * b + z) k : EReal)) (fun k => (Wb r k : EReal)) (XS b z : EReal) (ws r : EReal) (bb r : EReal)) y := by
  unfold Res GG
  have ha : f0 ((5 * b + z / 128 + 1) / 2) + (128 * (laneOf (5 * b + z / 128)).val + z % 128) % 256 = 640 * b + z := by
    unfold f0 laneOf
    by_cases h : 5 * b + z / 128 = 0
    · rw [if_pos h]
      show 256 * ((5 * b + z / 128 + 1) / 2) - 128 + (128 * 0 + z % 128) % 256 = _
      omega
    · rw [if_neg h]
      show 256 * ((5 * b + z / 128 + 1) / 2) - 128 + (128 * ((5 * b + z / 128 + 1) % 2) + z % 128) % 256 = _
      omega
  have hx : xsOf XS (grp ((5 * b + z / 128 + 1) / 2) (laneOf (5 * b + z / 128)).val) (z % 128) = XS b z := by
    have hg : grp ((5 * b + z / 128 + 1) / 2) (laneOf (5 * b + z / 128)).val = 5 * b + z / 128 := by
      unfold grp laneOf
      by_cases h : 5 * b + z / 128 = 0
      · rw [if_pos h]
        show 2 * ((5 * b + z / 128 + 1) / 2) - 1 + 0 = _
        omega
      · rw [if_neg h]
        show 2 * ((5 * b + z / 128 + 1) / 2) - 1 + (5 * b + z / 128 + 1) % 2 = _
        omega
    rw [hg]
    unfold xsOf
    rw [show (5 * b + z / 128) / 5 = b by omega, show 128 * ((5 * b + z / 128) % 5) + z % 128 = z by omega]
  show (soOf (hT X Wb ((5 * b + z / 128 + 1) / 2) (laneOf (5 * b + z / 128))) (colOf ws) (colOf bb)
    (xsOf XS (grp ((5 * b + z / 128 + 1) / 2) (laneOf (5 * b + z / 128)).val)) y (z % 128) : EReal) = _
  rw [soOf_sp]
  refine spOf_congr hy fun r hr => ?_
  have ew : ∀ w : ℕ → Elt Ideal .f32, colOf w r (z % 128) = w r := fun w => if_pos hr
  rw [hT_sum _ _ _ _ _ _ (by omega), ha, hx, ew, ew]
  rfl

/-- The rows of the weights past the last do not matter. -/
theorem Res_congr {X W W' : ℕ → ℕ → Elt Ideal .fp8e4m3} {XS : ℕ → ℕ → Elt Ideal .f32} {ws bb : ℕ → Elt Ideal .f32} {b y z : ℕ}
    (hy : y < 1026) (hz : z < 640) (h : ∀ x k, x < 1032 → W x k = W' x k) : Res X W XS ws bb b y z = Res X W' XS ws bb b y z := by
  refine (Res_sp X W XS ws bb hy hz).trans (Eq.trans ?_ (Res_sp X W' XS ws bb hy hz).symm)
  refine spOf_congr hy fun r hr => ?_
  have e : (fun k => (W r k : EReal)) = fun k => (W' r k : EReal) := funext fun k => h r k (by omega)
  rw [e]

end KernelIdeal

end Cert

end
-- ==== Proof.Ref.lean ====
/- The reference over the extended reals, read at an entry. -/
module

public import proofs.«01_k».proof.Proof.Spec
public import proofs.«01_k».proof.Proof.Gen.ReferenceIdeal.Value
public import Idealize.ShloMosaic.Lib.Pointwise

@[expose] public section

noncomputable section

namespace Cert.ReferenceIdeal

open Idealize.ShloMosaic Cert.ReferenceIdeal.Gen

variable (a0 : Vec Ideal S3x640x6144 .fp8e4m3) (a1 : Vec Ideal S3x640 .f32) (a2 : Vec Ideal S6144x1026 .fp8e4m3)
  (a3 : Vec Ideal S1026 .f32) (a4 : Vec Ideal S1026 .f32)

/-- The scaled projection of frame `z` of batch `b` by row `r`. -/
def rowOf (b : Fin 3) (z : Fin 640) (r : ℕ) : EReal :=
  affOf (fun k => (a0 (ix3 b z ⟨k % 6144, Nat.mod_lt _ (by decide)⟩) : EReal))
    (fun k => (a2 (ix2 ⟨k % 6144, Nat.mod_lt _ (by decide)⟩ ⟨r % 1026, Nat.mod_lt _ (by decide)⟩) : EReal))
    (a1 (ix2 b z)) (a3 (ix1 ⟨r % 1026, Nat.mod_lt _ (by decide)⟩)) (a4 (ix1 ⟨r % 1026, Nat.mod_lt _ (by decide)⟩))

theorem rowOf_eq (b : Fin 3) (z : Fin 640) {r : ℕ} (hr : r < 1026) : rowOf a0 a1 a2 a3 a4 b z r
    = (∑ x : Fin 6144, (a0 (ix3 b z x) : EReal) * (a2 (ix2 x ⟨r, hr⟩) : EReal)) * (a1 (ix2 b z) : EReal) * (a3 (ix1 ⟨r, hr⟩) : EReal)
      + (a4 (ix1 ⟨r, hr⟩) : EReal) := by
  have e : (⟨r % 1026, Nat.mod_lt _ (by decide)⟩ : Fin 1026) = ⟨r, hr⟩ := Fin.ext (Nat.mod_eq_of_lt hr)
  unfold rowOf affOf
  rw [Finset.sum_range, e]
  refine congrArg (fun u : EReal => u * (a1 (ix2 b z) : EReal) * (a3 (ix1 ⟨r, hr⟩) : EReal) + (a4 (ix1 ⟨r, hr⟩) : EReal)) ?_
  refine Finset.sum_congr rfl fun x _ => ?_
  have ex : (⟨x.val % 6144, Nat.mod_lt _ (by decide)⟩ : Fin 6144) = x := Fin.ext (Nat.mod_eq_of_lt x.isLt)
  show (a0 (ix3 b z ⟨x.val % 6144, Nat.mod_lt _ (by decide)⟩) : EReal) * (a2 (ix2 ⟨x.val % 6144, Nat.mod_lt _ (by decide)⟩ ⟨r, hr⟩) : EReal) = _
  rw [ex]

theorem ref_apply (b : Fin 3) (y : Fin 1026) (z : Fin 640) :
    (k0_pay1 (F := Ideal) a0 a2 a1 a3 a4 (ix3 b y z) : EReal) = spOf (rowOf a0 a1 a2 a3 a4 b z) y.val := by
  have hy := y.isLt
  pointwise [k0_pay1]
  unfold spOf
  by_cases h : y.val < 513
  · rw [if_pos h]
    rw [rowOf_eq a0 a1 a2 a3 a4 b z hy, rowOf_eq a0 a1 a2 a3 a4 b z (show 513 + y.val < 1026 by omega)]
    exact dif_pos h
  · rw [if_neg h]
    rw [rowOf_eq a0 a1 a2 a3 a4 b z (show y.val - 513 < 1026 by omega), rowOf_eq a0 a1 a2 a3 a4 b z (show 513 + (y.val - 513) < 1026 by omega)]
    exact dif_neg h

end Cert.ReferenceIdeal

end
-- ==== Proof.Value.lean ====
/- The run of the kernel over the extended reals, its result named. -/
module

public import proofs.«01_k».proof.Proof.Host
public import proofs.«01_k».proof.Proof.Ref
public import Idealize.ShloMosaic.Lib.Pipeline.FrameValue

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Own Cert.Mx

local notation "𝕄" => MT nD τ sig Unit (Elt Ideal) ℕ (Pipeline.UD sig nD τ) ℕ

variable (m : (ℓ : Loc nD τ sig) → Buf (Elt Ideal) ℓ) (ρ : Dev nD → PrngReg)

/-- What the kernel leaves in its result. -/
def Out (c : Dev nD) : Vec Ideal S3x1026x640 .bf16 := fun x =>
  Res (xA m c) (wA m c) (sA m c) (gA m c) (bA m c) (x (0 : Fin 3)).val (x (1 : Fin 3)).val (x (2 : Fin 3)).val

/-- The reference of the arguments. -/
abbrev Want (c : Dev nD) : Vec Ideal S3x1026x640 .bf16 := Cert.ReferenceIdeal.Gen.k0_pay1 (F := Ideal)
    (m ((c : Thread nD τ).loc main_arg0) : Vec Ideal S3x640x6144 .fp8e4m3) (m ((c : Thread nD τ).loc main_arg2) : Vec Ideal S6144x1026 .fp8e4m3)
    (m ((c : Thread nD τ).loc main_arg1) : Vec Ideal S3x640 .f32) (m ((c : Thread nD τ).loc main_arg3) : Vec Ideal S1026 .f32)
    (m ((c : Thread nD τ).loc main_arg4) : Vec Ideal S1026 .f32)

theorem Res_want (c : Dev nD) (b : Fin 3) (y : Fin 1026) (z : Fin 640) :
    Res (xA m c) (wA m c) (sA m c) (gA m c) (bA m c) b.val y.val z.val = Want m c (ix3 b y z) := by
  refine Eq.trans ?_ (Cert.ReferenceIdeal.ref_apply _ _ _ _ _ b y z).symm
  refine (Res_sp (xA m c) (wA m c) (sA m c) (gA m c) (bA m c) (b := b.val) y.isLt z.isLt).trans ?_
  refine spOf_congr y.isLt fun r hr => ?_
  unfold Cert.ReferenceIdeal.rowOf
  rw [sA_eq, gA_eq, bA_eq]
  have e1 : (fun k => (xA m c (640 * b.val + z.val) k : EReal)) = _ := funext fun k => xA_eq m c b z k
  have e2 : (fun k => (wA m c r k : EReal)) = _ := funext fun k => wA_eq m c hr k
  rw [e1, e2]

/-- What the kernel leaves is the reference of the arguments. -/
theorem Out_eq (c : Dev nD) : Out m c = Want m c := by
  funext x
  have hx : ix3 (x (0 : Fin 3) : Fin 3) (x (1 : Fin 3) : Fin 1026) (x (2 : Fin 3) : Fin 640) = x := by
    funext a
    match a with
    | ⟨0, _⟩ => rfl
    | ⟨1, _⟩ => rfl
    | ⟨2, _⟩ => rfl
  exact (Res_want m c _ _ _).trans (congrArg (Want m c) hx)

/-- The contents after the run: the result's array at `Out`. -/
def GR (c : Dev nD) (b : Ref sig .tc) : Buf (Elt Ideal) ((c : Thread nD τ).loc b) := Function.update (Gen.V m c) main_v4 (Out m c) b

theorem GR_v4 (c : Dev nD) : GR m c main_v4 = Out m c := Function.update_self ..

theorem routed_eq (c : Dev nD) (W : (b : Ref sig .tc) → Buf (Elt Ideal) ((c.tc : Thread nD τ).loc b)) :
    (Pipeline.routed R0 c W : sProp 𝕄) = (((c : Thread nD τ).loc main_v4) ↦{fullShare} W main_v4) := by
  unfold Pipeline.routed
  rw [BI.bigSep_eq_bigSepL_of_eq (S := R0) [main_v4] (by decide) (by decide)]
  rfl

theorem phi_out_value (c : Dev nD) : PhiOut m c ⊢ (Pipeline.ΦDRG osem0 (cfg0.spec) H0 R0 (Gen.V m) (GR m) c : sProp 𝕄) := by
  rw [Pipeline.ΦDRG_eq, routed_eq, GR_v4]
  unfold PhiOut
  iintro ⟨H1, H2, H3, H4, %Wb, %hW, H5⟩
  isplitl [H1]; · iexact H1
  isplitl [H2]; · iexact H2
  isplitl [H3]; · iexact H3
  isplitl [H4]; · iapply (hbm_out m c); iexact H4
  have h : (O3 c aO T3 (Res (xA m c) Wb (sA m c) (gA m c) (bA m c)) : sProp 𝕄) ⊢ (((c : Thread nD τ).loc main_v4) ↦{fullShare} Out m c) := by
    have h' : (O3 c aO T3 (Res (xA m c) Wb (sA m c) (gA m c) (bA m c)) : sProp 𝕄) ⊢ own (c : Thread nD τ) aO (fun _ => True) (Out m c) := by
      unfold O3
      exact own_val _ fun x _ => Res_congr (x (1 : Fin 3)).isLt (x (2 : Fin 3)).isLt hW
    exact h'.trans (own_unwhole (c := (c : Thread nD τ)) main_v4 (Out m c))
  iapply h
  iexact H5

set_option backward.isDefEq.respectTransparency.types false in
theorem run_value : θ_run defs (onTc (τ := τ) (main (F := Ideal))) ⟨m, fun _ => 0, ρ⟩
    (fun r => Pipeline.FramePostRG cfgs (dats m) 0 R0 (Gen.V m) (GR m) r ∧ r.2.sem = fun _ => 0) :=
  Pipeline.θ_run_frame_dmaRG (Q' := _) cfgs (dats m) (0 : Fin 1) Gen.launch0 osem0 defs₀ Variants.none ownSemFacts0 H0 R0 H0_sub R0_sub m ρ main
    (hbody := fun c => (body_obligation m c).loose) (hshare := fun c => (dats m 0 c).share_full fun _ => rfl)
    (howed := fun _ _ => rfl) (V := Gen.V m) (hmain := hmain m) (hA := A_eq m) (G := GR m)
    (hin := fun c => by
      have h : (dats m 0 c).Φ 0 = PhiIn m c := Phi_zero m c
      rw [h]; exact (Pipeline.ΦDRG_ΦDR osem0 (cfg0.spec) H0 R0 (Gen.V m) (Gen.V m) c).trans (phi_in m c))
    (hout := fun c => by rw [last_eq]; exact phi_out_value m c)

/-- What the kernel leaves: the reference of the arguments, and the arguments as they were. -/
theorem run : θ_run defs (onTc (τ := τ) (main (F := Ideal))) ⟨m, fun _ => 0, ρ⟩ (fun r => ∀ c : Dev nD,
      r.2.mem ((c.tc : Thread nD τ).loc main_v4) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.2 c main_v4 (by decide)).trans (GR_v4 m c),
      ((h.1.1 c).2 main_arg0 (Finset.mem_sdiff.mpr ⟨Pipeline.mem_restRefs_of main_arg0 (by decide) (by decide), by decide⟩)).trans (Gen.V_main_arg0 m c),
      ((h.1.1 c).2 main_arg1 (Finset.mem_sdiff.mpr ⟨Pipeline.mem_restRefs_of main_arg1 (by decide) (by decide), by decide⟩)).trans (Gen.V_main_arg1 m c),
      ((h.1.1 c).2 main_arg2 (Finset.mem_sdiff.mpr ⟨Pipeline.mem_restRefs_of main_arg2 (by decide) (by decide), by decide⟩)).trans (Gen.V_main_arg2 m c),
      ((h.1.1 c).2 main_arg3 (Finset.mem_sdiff.mpr ⟨Pipeline.mem_restRefs_of main_arg3 (by decide) (by decide), by decide⟩)).trans (Gen.V_main_arg3 m c),
      ((h.1.1 c).2 main_arg4 (Finset.mem_sdiff.mpr ⟨Pipeline.mem_restRefs_of main_arg4 (by decide) (by decide), by decide⟩)).trans (Gen.V_main_arg4 m c)⟩)
    (run_value m ρ)

end Cert.KernelIdeal

end
-- ==== Proof.lean ====
/- The proof of the certificate's claims. -/
module

public import proofs.«01_k».proof.Defs
public import proofs.«01_k».proof.Proof.Same
public import proofs.«01_k».proof.Proof.Value
public import proofs.«01_k».proof.Proof.Gen.ReferenceIdeal
public import proofs.«01_k».proof.Proof.Gen.ReferenceIdeal.Value

@[expose] public section

noncomputable section

namespace Cert.Proof

open Idealize.ShloMosaic

/-- The kernel's array and the reference's, of the same arguments, are the same over the extended reals. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => Cert.KernelIdeal.Out m c, Cert.KernelIdeal.run m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4⟩ := hagree c
  refine Eq.trans ?_ (Cert.KernelIdeal.Out_eq m c).symm
  rw [e0, e1, e2, e3, e4]

theorem claim : Cert.Claim :=
  ⟨Cert.Kernel.Gen.facts, Cert.KernelIdeal.Gen.facts, Cert.ReferenceIdeal.Gen.facts,
    kernel_frame, fun m g _ => Cert.KernelIdeal.frame m g, fun m g _ => Cert.ReferenceIdeal.Gen.frame m g, trivial, algebraic⟩

end Cert.Proof

end
